-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x64x256x1 : Shape := ⟨4, ![64, 64, 256, 1]⟩
abbrev S128x1 : Shape := ⟨2, ![128, 1]⟩
abbrev S128x32 : Shape := ⟨2, ![128, 32]⟩
abbrev S128 : Shape := ⟨1, ![128]⟩
abbrev S128x64 : Shape := ⟨2, ![128, 64]⟩
abbrev S2x64 : Shape := ⟨2, ![2, 64]⟩
abbrev S2 : Shape := ⟨1, ![2]⟩
abbrev S64x64x256 : Shape := ⟨3, ![64, 64, 256]⟩
abbrev S256x64x64 : Shape := ⟨3, ![256, 64, 64]⟩
abbrev S256x4096 : Shape := ⟨2, ![256, 4096]⟩
abbrev S256x64 : Shape := ⟨2, ![256, 64]⟩
abbrev S_ : Shape := ⟨0, ![]⟩
abbrev S8x64 : Shape := ⟨2, ![8, 64]⟩
abbrev S1 : Shape := ⟨1, ![1]⟩
abbrev S8x1 : Shape := ⟨2, ![8, 1]⟩
abbrev S64x4096 : Shape := ⟨2, ![64, 4096]⟩
abbrev S256x2048 : Shape := ⟨2, ![256, 2048]⟩
abbrev S64x2048 : Shape := ⟨2, ![64, 2048]⟩
abbrev S32x2048 : Shape := ⟨2, ![32, 2048]⟩
abbrev S8x2048 : Shape := ⟨2, ![8, 2048]⟩
abbrev S1x2048 : Shape := ⟨2, ![1, 2048]⟩
abbrev S128x2048 : Shape := ⟨2, ![128, 2048]⟩
abbrev S64x128x64 : Shape := ⟨3, ![64, 128, 64]⟩
abbrev S64x32x64 : Shape := ⟨3, ![64, 32, 64]⟩
abbrev S64x512 : Shape := ⟨2, ![64, 512]⟩
abbrev S128x512 : Shape := ⟨2, ![128, 512]⟩
abbrev S32x512 : Shape := ⟨2, ![32, 512]⟩
abbrev S1x128x64 : Shape := ⟨3, ![1, 128, 64]⟩
abbrev S32x64 : Shape := ⟨2, ![32, 64]⟩
abbrev S1x32x64 : Shape := ⟨3, ![1, 32, 64]⟩
abbrev S64x64 : Shape := ⟨2, ![64, 64]⟩
abbrev S1x64 : Shape := ⟨2, ![1, 64]⟩
abbrev S6x64 : Shape := ⟨2, ![6, 64]⟩
abbrev S64x2 : Shape := ⟨2, ![64, 2]⟩

abbrev nBuf : Space → Nat
  | .hbm => 48
  | .vmem => 21
  | .smem => 0
  | _ => 0

abbrev bufTy : (tb : Table) → Fin (tcTables nBuf tb) → BufTy
  | .hbm, ⟨0, _⟩ => ⟨S64x64x256x1, .f32⟩
  | .hbm, ⟨1, _⟩ => ⟨S128x1, .f32⟩
  | .hbm, ⟨2, _⟩ => ⟨S128x32, .f32⟩
  | .hbm, ⟨3, _⟩ => ⟨S128, .f32⟩
  | .hbm, ⟨4, _⟩ => ⟨S128, .f32⟩
  | .hbm, ⟨5, _⟩ => ⟨S128x1, .f32⟩
  | .hbm, ⟨6, _⟩ => ⟨S128x32, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S128x32, .f32⟩
  | .hbm, ⟨11, _⟩ => ⟨S128, .f32⟩
  | .hbm, ⟨12, _⟩ => ⟨S128, .f32⟩
  | .hbm, ⟨13, _⟩ => ⟨S128x64, .f32⟩
  | .hbm, ⟨14, _⟩ => ⟨S128x32, .f32⟩
  | .hbm, ⟨15, _⟩ => ⟨S128, .f32⟩
  | .hbm, ⟨16, _⟩ => ⟨S128, .f32⟩
  | .hbm, ⟨17, _⟩ => ⟨S2x64, .f32⟩
  | .hbm, ⟨18, _⟩ => ⟨S2, .f32⟩
  | .hbm, ⟨19, _⟩ => ⟨S64x64x256, .f32⟩
  | .hbm, ⟨20, _⟩ => ⟨S256x64x64, .f32⟩
  | .hbm, ⟨21, _⟩ => ⟨S256x4096, .f32⟩
  | .hbm, ⟨22, _⟩ => ⟨S128, .f32⟩
  | .hbm, ⟨23, _⟩ => ⟨S128x1, .f32⟩
  | .hbm, ⟨24, _⟩ => ⟨S128, .f32⟩
  | .hbm, ⟨25, _⟩ => ⟨S128x1, .f32⟩
  | .hbm, ⟨26, _⟩ => ⟨S128, .f32⟩
  | .hbm, ⟨27, _⟩ => ⟨S128x1, .f32⟩
  | .hbm, ⟨28, _⟩ => ⟨S128, .f32⟩
  | .hbm, ⟨29, _⟩ => ⟨S128x1, .f32⟩
  | .hbm, ⟨30, _⟩ => ⟨S256x64, .f32⟩
  | .hbm, ⟨31, _⟩ => ⟨S_, .f32⟩
  | .hbm, ⟨32, _⟩ => ⟨S8x64, .f32⟩
  | .hbm, ⟨33, _⟩ => ⟨S_, .i32⟩
  | .hbm, ⟨34, _⟩ => ⟨S1, .i32⟩
  | .hbm, ⟨35, _⟩ => ⟨S8x64, .f32⟩
  | .hbm, ⟨36, _⟩ => ⟨S_, .f32⟩
  | .hbm, ⟨37, _⟩ => ⟨S8x1, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S8x1, .f32⟩
  | .hbm, ⟨44, _⟩ => ⟨S64x4096, .f32⟩
  | .hbm, ⟨45, _⟩ => ⟨S8x64, .f32⟩
  | .hbm, ⟨46, _⟩ => ⟨S2x64, .f32⟩
  | .hbm, ⟨47, _⟩ => ⟨S64x2, .f32⟩
  | .local _ .vmem, ⟨0, _⟩ => ⟨S256x2048, .f32⟩
  | .local _ .vmem, ⟨1, _⟩ => ⟨S256x2048, .f32⟩
  | .local _ .vmem, ⟨2, _⟩ => ⟨S128x32, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S64x2048, .f32⟩
  | .local _ .vmem, ⟨8, _⟩ => ⟨S64x2048, .f32⟩
  | .local _ .vmem, ⟨9, _⟩ => ⟨S64x4096, .f32⟩
  | .local _ .vmem, ⟨10, _⟩ => ⟨S128x64, .f32⟩
  | .local _ .vmem, ⟨11, _⟩ => ⟨S128x32, .f32⟩
  | .local _ .vmem, ⟨12, _⟩ => ⟨S128x1, .f32⟩
  | .local _ .vmem, ⟨13, _⟩ => ⟨S128x64, .f32⟩
  | .local _ .vmem, ⟨14, _⟩ => ⟨S128x1, .f32⟩
  | .local _ .vmem, ⟨15, _⟩ => ⟨S256x64, .f32⟩
  | .local _ .vmem, ⟨16, _⟩ => ⟨S8x64, .f32⟩
  | .local _ .vmem, ⟨17, _⟩ => ⟨S8x1, .f32⟩
  | .local _ .vmem, ⟨18, _⟩ => ⟨S8x64, .f32⟩
  | .local _ .vmem, ⟨19, _⟩ => ⟨S64x128x64, .f32⟩
  | .local _ .vmem, ⟨20, _⟩ => ⟨S64x32x64, .f32⟩
  | _, _ => ⟨S64x64x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v28 : BitVec 32 := Scalar.muli arg8 c8_i32
  v28
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v28 : BitVec 32 := Scalar.muli arg8 c8_i32
  let v29 : BitVec 32 := v28
  let v30 : Index := Scalar.indexCast v29
  let c0_13 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

@[reducible] def k1_t1_loop : Scf.Loop 32 :=
  let c0_i32 : BitVec 32 := 0#32
  let c63_i32 : BitVec 32 := 63#32
  let v673 : BitVec 32 := Scalar.addi c0_i32 c63_i32
  let c1_i32 : BitVec 32 := 1#32
  ⟨c0_i32, v673, c1_i32⟩
def k1_off1 (k1_t1 : Fin k1_t1_loop.trips) : Fin 3 → Nat :=
  let c62_i32 : BitVec 32 := 62#32
  let c0_i32 : BitVec 32 := 0#32
  let c1_i32 : BitVec 32 := 1#32
  let arg12 : BitVec 32 := Scf.iv c0_i32 c1_i32 k1_t1
  let v695 : BitVec 32 := Scalar.subi c62_i32 arg12
  let v698 : Index := Scalar.indexCast v695
  let c0_368 : Index := 0#32
  let c0_369 : Index := 0#32
  ![v698.toNat, 0, 0]
def k1_off2 (k1_t1 : Fin k1_t1_loop.trips) : Fin 3 → Nat :=
  let c62_i32 : BitVec 32 := 62#32
  let c0_i32 : BitVec 32 := 0#32
  let c1_i32 : BitVec 32 := 1#32
  let arg12 : BitVec 32 := Scf.iv c0_i32 c1_i32 k1_t1
  let v695 : BitVec 32 := Scalar.subi c62_i32 arg12
  let v710 : Index := Scalar.indexCast v695
  let c0_370 : Index := 0#32
  let c0_371 : Index := 0#32
  ![v710.toNat, 0, 0]
abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S64x64x256x1 : Shape := ⟨4, ![64, 64, 256, 1]⟩
abbrev S128x1 : Shape := ⟨2, ![128, 1]⟩
abbrev S128x32 : Shape := ⟨2, ![128, 32]⟩
abbrev S128 : Shape := ⟨1, ![128]⟩
abbrev S128x64 : Shape := ⟨2, ![128, 64]⟩
abbrev S2x64 : Shape := ⟨2, ![2, 64]⟩
abbrev S2 : Shape := ⟨1, ![2]⟩
abbrev S4096x256x1 : Shape := ⟨3, ![4096, 256, 1]⟩
abbrev S256x4096x1 : Shape := ⟨3, ![256, 4096, 1]⟩
abbrev S_ : Shape := ⟨0, ![]⟩
abbrev S4096x32 : Shape := ⟨2, ![4096, 32]⟩
abbrev S1x4096x1 : Shape := ⟨3, ![1, 4096, 1]⟩
abbrev S4096x1 : Shape := ⟨2, ![4096, 1]⟩
abbrev S1x128 : Shape := ⟨2, ![1, 128]⟩
abbrev S4096x128 : Shape := ⟨2, ![4096, 128]⟩
abbrev S32x128 : Shape := ⟨2, ![32, 128]⟩
abbrev S4096x64 : Shape := ⟨2, ![4096, 64]⟩
abbrev S64x64x64 : Shape := ⟨3, ![64, 64, 64]⟩
abbrev S64x32 : Shape := ⟨2, ![64, 32]⟩
abbrev S64x1x64 : Shape := ⟨3, ![64, 1, 64]⟩
abbrev S64x64 : Shape := ⟨2, ![64, 64]⟩
abbrev S64x128 : Shape := ⟨2, ![64, 128]⟩
abbrev S64x63x64 : Shape := ⟨3, ![64, 63, 64]⟩
abbrev S63x64x64 : Shape := ⟨3, ![63, 64, 64]⟩
abbrev S1x64x64 : Shape := ⟨3, ![1, 64, 64]⟩
abbrev S64x2 : Shape := ⟨2, ![64, 2]⟩
abbrev S1x2 : Shape := ⟨2, ![1, 2]⟩
abbrev S64 : Shape := ⟨1, ![64]⟩
abbrev S64x1 : Shape := ⟨2, ![64, 1]⟩

abbrev nBuf : Space → Nat
  | .hbm => 390
  | .vmem => 0
  | .smem => 0
  | _ => 0

abbrev hbmTy0_0 (i : Nat) : BufTy := match i % 128 with
  | 0 => ⟨S64x64x256x1, .f32⟩
  | 1 => ⟨S128x1, .f32⟩
  | 2 => ⟨S128x32, .f32⟩
  | 3 => ⟨S128, .f32⟩
  | 4 => ⟨S128, .f32⟩
  | 5 => ⟨S128x1, .f32⟩
  | 6 => ⟨S128x32, .f32⟩
  | 7 => ⟨S128, .f32⟩
  | 8 => ⟨S128, .f32⟩
  | 9 => ⟨S128x64, .f32⟩
  | 10 => ⟨S128x32, .f32⟩
  | 11 => ⟨S128, .f32⟩
  | 12 => ⟨S128, .f32⟩
  | 13 => ⟨S128x64, .f32⟩
  | 14 => ⟨S128x32, .f32⟩
  | 15 => ⟨S128, .f32⟩
  | 16 => ⟨S128, .f32⟩
  | 17 => ⟨S2x64, .f32⟩
  | 18 => ⟨S2, .f32⟩
  | 19 => ⟨S128, .f32⟩
  | 20 => ⟨S128, .f32⟩
  | 21 => ⟨S128, .f32⟩
  | 22 => ⟨S128, .f32⟩
  | 23 => ⟨S4096x256x1, .f32⟩
  | 24 => ⟨S256x4096x1, .f32⟩
  | 25 => ⟨S_, .f32⟩
  | 26 => ⟨S4096x32, .f32⟩
  | 27 => ⟨S_, .i32⟩
  | 28 => ⟨S256x4096x1, .f32⟩
  | 29 => ⟨S128x1, .f32⟩
  | 30 => ⟨S128x32, .f32⟩
  | 31 => ⟨S128, .f32⟩
  | 32 => ⟨S_, .i32⟩
  | 33 => ⟨S4096x32, .f32⟩
  | 34 => ⟨S4096x32, .f32⟩
  | 35 => ⟨S_, .i32⟩
  | 36 => ⟨S_, .i1⟩
  | 37 => ⟨S_, .i32⟩
  | 38 => ⟨S_, .i32⟩
  | 39 => ⟨S1x4096x1, .f32⟩
  | 40 => ⟨S4096x1, .f32⟩
  | 41 => ⟨S1x128, .f32⟩
  | 42 => ⟨S4096x128, .f32⟩
  | 43 => ⟨S32x128, .f32⟩
  | 44 => ⟨S4096x128, .f32⟩
  | 45 => ⟨S4096x128, .f32⟩
  | 46 => ⟨S1x128, .f32⟩
  | 47 => ⟨S4096x128, .f32⟩
  | 48 => ⟨S4096x128, .f32⟩
  | 49 => ⟨S4096x32, .f32⟩
  | 50 => ⟨S4096x32, .f32⟩
  | 51 => ⟨S4096x32, .f32⟩
  | 52 => ⟨S4096x32, .f32⟩
  | 53 => ⟨S4096x32, .f32⟩
  | 54 => ⟨S4096x32, .f32⟩
  | 55 => ⟨S_, .f32⟩
  | 56 => ⟨S4096x32, .f32⟩
  | 57 => ⟨S4096x32, .f32⟩
  | 58 => ⟨S_, .f32⟩
  | 59 => ⟨S4096x32, .f32⟩
  | 60 => ⟨S4096x32, .f32⟩
  | 61 => ⟨S4096x32, .f32⟩
  | 62 => ⟨S4096x32, .f32⟩
  | 63 => ⟨S4096x32, .f32⟩
  | 64 => ⟨S_, .f32⟩
  | 65 => ⟨S4096x32, .f32⟩
  | 66 => ⟨S4096x32, .f32⟩
  | 67 => ⟨S_, .f32⟩
  | 68 => ⟨S4096x32, .f32⟩
  | 69 => ⟨S4096x32, .f32⟩
  | 70 => ⟨S4096x32, .f32⟩
  | 71 => ⟨S4096x32, .f32⟩
  | 72 => ⟨S4096x32, .f32⟩
  | 73 => ⟨S4096x32, .f32⟩
  | 74 => ⟨S4096x32, .f32⟩
  | 75 => ⟨S_, .f32⟩
  | 76 => ⟨S4096x32, .f32⟩
  | 77 => ⟨S4096x32, .f32⟩
  | 78 => ⟨S_, .f32⟩
  | 79 => ⟨S4096x32, .f32⟩
  | 80 => ⟨S4096x32, .f32⟩
  | 81 => ⟨S4096x32, .f32⟩
  | 82 => ⟨S4096x32, .f32⟩
  | 83 => ⟨S_, .i32⟩
  | 84 => ⟨S_, .i32⟩
  | 85 => ⟨S1x4096x1, .f32⟩
  | 86 => ⟨S4096x1, .f32⟩
  | 87 => ⟨S1x128, .f32⟩
  | 88 => ⟨S4096x128, .f32⟩
  | 89 => ⟨S32x128, .f32⟩
  | 90 => ⟨S4096x128, .f32⟩
  | 91 => ⟨S4096x128, .f32⟩
  | 92 => ⟨S1x128, .f32⟩
  | 93 => ⟨S4096x128, .f32⟩
  | 94 => ⟨S4096x128, .f32⟩
  | 95 => ⟨S4096x32, .f32⟩
  | 96 => ⟨S4096x32, .f32⟩
  | 97 => ⟨S4096x32, .f32⟩
  | 98 => ⟨S4096x32, .f32⟩
  | 99 => ⟨S4096x32, .f32⟩
  | 100 => ⟨S4096x32, .f32⟩
  | 101 => ⟨S_, .f32⟩
  | 102 => ⟨S4096x32, .f32⟩
  | 103 => ⟨S4096x32, .f32⟩
  | 104 => ⟨S_, .f32⟩
  | 105 => ⟨S4096x32, .f32⟩
  | 106 => ⟨S4096x32, .f32⟩
  | 107 => ⟨S4096x32, .f32⟩
  | 108 => ⟨S4096x32, .f32⟩
  | 109 => ⟨S4096x32, .f32⟩
  | 110 => ⟨S_, .f32⟩
  | 111 => ⟨S4096x32, .f32⟩
  | 112 => ⟨S4096x32, .f32⟩
  | 113 => ⟨S_, .f32⟩
  | 114 => ⟨S4096x32, .f32⟩
  | 115 => ⟨S4096x32, .f32⟩
  | 116 => ⟨S4096x32, .f32⟩
  | 117 => ⟨S4096x32, .f32⟩
  | 118 => ⟨S4096x32, .f32⟩
  | 119 => ⟨S4096x32, .f32⟩
  | 120 => ⟨S4096x32, .f32⟩
  | 121 => ⟨S_, .f32⟩
  | 122 => ⟨S4096x32, .f32⟩
  | 123 => ⟨S4096x32, .f32⟩
  | 124 => ⟨S_, .f32⟩
  | 125 => ⟨S4096x32, .f32⟩
  | 126 => ⟨S4096x32, .f32⟩
  | 127 => ⟨S4096x32, .f32⟩
  | _ => ⟨S64x64x256x1, .f32⟩

abbrev hbmTy0_1 (i : Nat) : BufTy := match i % 128 with
  | 0 => ⟨S4096x32, .f32⟩
  | 1 => ⟨S4096x64, .f32⟩
  | 2 => ⟨S64x64x64, .f32⟩
  | 3 => ⟨S_, .f32⟩
  | 4 => ⟨S64x32, .f32⟩
  | 5 => ⟨S64x1x64, .f32⟩
  | 6 => ⟨S64x64, .f32⟩
  | 7 => ⟨S64x128, .f32⟩
  | 8 => ⟨S64x128, .f32⟩
  | 9 => ⟨S32x128, .f32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S64x32, .f32⟩
  | 16 => ⟨S64x32, .f32⟩
  | 17 => ⟨S64x32, .f32⟩
  | 18 => ⟨S64x32, .f32⟩
  | 19 => ⟨S64x32, .f32⟩
  | 20 => ⟨S64x32, .f32⟩
  | 21 => ⟨S_, .f32⟩
  | 22 => ⟨S64x32, .f32⟩
  | 23 => ⟨S64x32, .f32⟩
  | 24 => ⟨S_, .f32⟩
  | 25 => ⟨S64x32, .f32⟩
  | 26 => ⟨S64x32, .f32⟩
  | 27 => ⟨S64x32, .f32⟩
  | 28 => ⟨S64x32, .f32⟩
  | 29 => ⟨S64x32, .f32⟩
  | 30 => ⟨S_, .f32⟩
  | 31 => ⟨S64x32, .f32⟩
  | 32 => ⟨S64x32, .f32⟩
  | 33 => ⟨S_, .f32⟩
  | 34 => ⟨S64x32, .f32⟩
  | 35 => ⟨S64x32, .f32⟩
  | 36 => ⟨S64x32, .f32⟩
  | 37 => ⟨S64x32, .f32⟩
  | 38 => ⟨S64x32, .f32⟩
  | 39 => ⟨S64x32, .f32⟩
  | 40 => ⟨S64x32, .f32⟩
  | 41 => ⟨S_, .f32⟩
  | 42 => ⟨S64x32, .f32⟩
  | 43 => ⟨S64x32, .f32⟩
  | 44 => ⟨S_, .f32⟩
  | 45 => ⟨S64x32, .f32⟩
  | 46 => ⟨S64x32, .f32⟩
  | 47 => ⟨S64x32, .f32⟩
  | 48 => ⟨S64x32, .f32⟩
  | 49 => ⟨S64x1x64, .f32⟩
  | 50 => ⟨S64x64, .f32⟩
  | 51 => ⟨S64x128, .f32⟩
  | 52 => ⟨S64x128, .f32⟩
  | 53 => ⟨S32x128, .f32⟩
  | 54 => ⟨S64x128, .f32⟩
  | 55 => ⟨S64x128, .f32⟩
  | 56 => ⟨S1x128, .f32⟩
  | 57 => ⟨S64x128, .f32⟩
  | 58 => ⟨S64x128, .f32⟩
  | 59 => ⟨S64x32, .f32⟩
  | 60 => ⟨S64x32, .f32⟩
  | 61 => ⟨S64x32, .f32⟩
  | 62 => ⟨S64x32, .f32⟩
  | 63 => ⟨S64x32, .f32⟩
  | 64 => ⟨S64x32, .f32⟩
  | 65 => ⟨S_, .f32⟩
  | 66 => ⟨S64x32, .f32⟩
  | 67 => ⟨S64x32, .f32⟩
  | 68 => ⟨S_, .f32⟩
  | 69 => ⟨S64x32, .f32⟩
  | 70 => ⟨S64x32, .f32⟩
  | 71 => ⟨S64x32, .f32⟩
  | 72 => ⟨S64x32, .f32⟩
  | 73 => ⟨S64x32, .f32⟩
  | 74 => ⟨S_, .f32⟩
  | 75 => ⟨S64x32, .f32⟩
  | 76 => ⟨S64x32, .f32⟩
  | 77 => ⟨S_, .f32⟩
  | 78 => ⟨S64x32, .f32⟩
  | 79 => ⟨S64x32, .f32⟩
  | 80 => ⟨S64x32, .f32⟩
  | 81 => ⟨S64x32, .f32⟩
  | 82 => ⟨S64x32, .f32⟩
  | 83 => ⟨S64x32, .f32⟩
  | 84 => ⟨S64x32, .f32⟩
  | 85 => ⟨S_, .f32⟩
  | 86 => ⟨S64x32, .f32⟩
  | 87 => ⟨S64x32, .f32⟩
  | 88 => ⟨S_, .f32⟩
  | 89 => ⟨S64x32, .f32⟩
  | 90 => ⟨S64x32, .f32⟩
  | 91 => ⟨S64x32, .f32⟩
  | 92 => ⟨S64x32, .f32⟩
  | 93 => ⟨S64x64, .f32⟩
  | 94 => ⟨S64x63x64, .f32⟩
  | 95 => ⟨S64x63x64, .f32⟩
  | 96 => ⟨S63x64x64, .f32⟩
  | 97 => ⟨S_, .i32⟩
  | 98 => ⟨S63x64x64, .f32⟩
  | 99 => ⟨S128x64, .f32⟩
  | 100 => ⟨S128x32, .f32⟩
  | 101 => ⟨S64x32, .f32⟩
  | 102 => ⟨S128, .f32⟩
  | 103 => ⟨S128x64, .f32⟩
  | 104 => ⟨S128x32, .f32⟩
  | 105 => ⟨S128, .f32⟩
  | 106 => ⟨S_, .i32⟩
  | 107 => ⟨S64x64, .f32⟩
  | 108 => ⟨S_, .i32⟩
  | 109 => ⟨S_, .i1⟩
  | 110 => ⟨S_, .i32⟩
  | 111 => ⟨S_, .i32⟩
  | 112 => ⟨S1x64x64, .f32⟩
  | 113 => ⟨S64x64, .f32⟩
  | 114 => ⟨S64x128, .f32⟩
  | 115 => ⟨S64x128, .f32⟩
  | 116 => ⟨S32x128, .f32⟩
  | 117 => ⟨S64x128, .f32⟩
  | 118 => ⟨S64x128, .f32⟩
  | 119 => ⟨S1x128, .f32⟩
  | 120 => ⟨S64x128, .f32⟩
  | 121 => ⟨S64x128, .f32⟩
  | 122 => ⟨S64x32, .f32⟩
  | 123 => ⟨S64x32, .f32⟩
  | 124 => ⟨S64x32, .f32⟩
  | 125 => ⟨S64x32, .f32⟩
  | 126 => ⟨S64x32, .f32⟩
  | 127 => ⟨S64x32, .f32⟩
  | _ => ⟨S64x64x256x1, .f32⟩

abbrev hbmTy0_2 (i : Nat) : BufTy := match i % 128 with
  | 0 => ⟨S_, .f32⟩
  | 1 => ⟨S64x32, .f32⟩
  | 2 => ⟨S64x32, .f32⟩
  | 3 => ⟨S_, .f32⟩
  | 4 => ⟨S64x32, .f32⟩
  | 5 => ⟨S64x32, .f32⟩
  | 6 => ⟨S64x32, .f32⟩
  | 7 => ⟨S64x32, .f32⟩
  | 8 => ⟨S64x32, .f32⟩
  | 9 => ⟨S_, .f32⟩
  | 10 => ⟨S64x32, .f32⟩
  | 11 => ⟨S64x32, .f32⟩
  | 12 => ⟨S_, .f32⟩
  | 13 => ⟨S64x32, .f32⟩
  | 14 => ⟨S64x32, .f32⟩
  | 15 => ⟨S64x32, .f32⟩
  | 16 => ⟨S64x32, .f32⟩
  | 17 => ⟨S64x32, .f32⟩
  | 18 => ⟨S64x32, .f32⟩
  | 19 => ⟨S64x32, .f32⟩
  | 20 => ⟨S_, .f32⟩
  | 21 => ⟨S64x32, .f32⟩
  | 22 => ⟨S64x32, .f32⟩
  | 23 => ⟨S_, .f32⟩
  | 24 => ⟨S64x32, .f32⟩
  | 25 => ⟨S64x32, .f32⟩
  | 26 => ⟨S64x32, .f32⟩
  | 27 => ⟨S64x32, .f32⟩
  | 28 => ⟨S64x128, .f32⟩
  | 29 => ⟨S64x128, .f32⟩
  | 30 => ⟨S32x128, .f32⟩
  | 31 => ⟨S64x128, .f32⟩
  | 32 => ⟨S64x128, .f32⟩
  | 33 => ⟨S1x128, .f32⟩
  | 34 => ⟨S64x128, .f32⟩
  | 35 => ⟨S64x128, .f32⟩
  | 36 => ⟨S64x32, .f32⟩
  | 37 => ⟨S64x32, .f32⟩
  | 38 => ⟨S64x32, .f32⟩
  | 39 => ⟨S64x32, .f32⟩
  | 40 => ⟨S64x32, .f32⟩
  | 41 => ⟨S64x32, .f32⟩
  | 42 => ⟨S_, .f32⟩
  | 43 => ⟨S64x32, .f32⟩
  | 44 => ⟨S64x32, .f32⟩
  | 45 => ⟨S_, .f32⟩
  | 46 => ⟨S64x32, .f32⟩
  | 47 => ⟨S64x32, .f32⟩
  | 48 => ⟨S64x32, .f32⟩
  | 49 => ⟨S64x32, .f32⟩
  | 50 => ⟨S64x32, .f32⟩
  | 51 => ⟨S_, .f32⟩
  | 52 => ⟨S64x32, .f32⟩
  | 53 => ⟨S64x32, .f32⟩
  | 54 => ⟨S_, .f32⟩
  | 55 => ⟨S64x32, .f32⟩
  | 56 => ⟨S64x32, .f32⟩
  | 57 => ⟨S64x32, .f32⟩
  | 58 => ⟨S64x32, .f32⟩
  | 59 => ⟨S64x32, .f32⟩
  | 60 => ⟨S64x32, .f32⟩
  | 61 => ⟨S64x32, .f32⟩
  | 62 => ⟨S_, .f32⟩
  | 63 => ⟨S64x32, .f32⟩
  | 64 => ⟨S64x32, .f32⟩
  | 65 => ⟨S_, .f32⟩
  | 66 => ⟨S64x32, .f32⟩
  | 67 => ⟨S64x32, .f32⟩
  | 68 => ⟨S64x32, .f32⟩
  | 69 => ⟨S64x32, .f32⟩
  | 70 => ⟨S64x128, .f32⟩
  | 71 => ⟨S64x128, .f32⟩
  | 72 => ⟨S32x128, .f32⟩
  | 73 => ⟨S64x128, .f32⟩
  | 74 => ⟨S64x128, .f32⟩
  | 75 => ⟨S1x128, .f32⟩
  | 76 => ⟨S64x128, .f32⟩
  | 77 => ⟨S64x128, .f32⟩
  | 78 => ⟨S64x32, .f32⟩
  | 79 => ⟨S64x32, .f32⟩
  | 80 => ⟨S64x32, .f32⟩
  | 81 => ⟨S64x32, .f32⟩
  | 82 => ⟨S64x32, .f32⟩
  | 83 => ⟨S64x32, .f32⟩
  | 84 => ⟨S_, .f32⟩
  | 85 => ⟨S64x32, .f32⟩
  | 86 => ⟨S64x32, .f32⟩
  | 87 => ⟨S_, .f32⟩
  | 88 => ⟨S64x32, .f32⟩
  | 89 => ⟨S64x32, .f32⟩
  | 90 => ⟨S64x32, .f32⟩
  | 91 => ⟨S64x32, .f32⟩
  | 92 => ⟨S64x32, .f32⟩
  | 93 => ⟨S_, .f32⟩
  | 94 => ⟨S64x32, .f32⟩
  | 95 => ⟨S64x32, .f32⟩
  | 96 => ⟨S_, .f32⟩
  | 97 => ⟨S64x32, .f32⟩
  | 98 => ⟨S64x32, .f32⟩
  | 99 => ⟨S64x32, .f32⟩
  | 100 => ⟨S64x32, .f32⟩
  | 101 => ⟨S64x32, .f32⟩
  | 102 => ⟨S64x32, .f32⟩
  | 103 => ⟨S64x32, .f32⟩
  | 104 => ⟨S_, .f32⟩
  | 105 => ⟨S64x32, .f32⟩
  | 106 => ⟨S64x32, .f32⟩
  | 107 => ⟨S_, .f32⟩
  | 108 => ⟨S64x32, .f32⟩
  | 109 => ⟨S64x32, .f32⟩
  | 110 => ⟨S64x32, .f32⟩
  | 111 => ⟨S64x32, .f32⟩
  | 112 => ⟨S64x64, .f32⟩
  | 113 => ⟨S_, .i32⟩
  | 114 => ⟨S_, .i32⟩
  | 115 => ⟨S64x2, .f32⟩
  | 116 => ⟨S64x2, .f32⟩
  | 117 => ⟨S1x2, .f32⟩
  | 118 => ⟨S64x2, .f32⟩
  | 119 => ⟨S64x2, .f32⟩
  | 120 => ⟨S_, .f32⟩
  | 121 => ⟨S64, .f32⟩
  | 122 => ⟨S_, .f32⟩
  | 123 => ⟨S64, .f32⟩
  | 124 => ⟨S64, .f32⟩
  | 125 => ⟨S64x1, .f32⟩
  | 126 => ⟨S64x2, .f32⟩
  | 127 => ⟨S64x2, .f32⟩
  | _ => ⟨S64x64x256x1, .f32⟩

abbrev hbmTy0_3 (i : Nat) : BufTy := match i % 128 with
  | 0 => ⟨S64x2, .f32⟩
  | 1 => ⟨S_, .f32⟩
  | 2 => ⟨S64, .f32⟩
  | 3 => ⟨S64x1, .f32⟩
  | 4 => ⟨S64x2, .f32⟩
  | 5 => ⟨S64x2, .f32⟩
  | _ => ⟨S64x64x256x1, .f32⟩

abbrev hbmTy (i : Nat) : BufTy := match i / 128 with
  | 0 => hbmTy0_0 i
  | 1 => hbmTy0_1 i
  | 2 => hbmTy0_2 i
  | 3 => hbmTy0_3 i
  | _ => ⟨S64x64x256x1, .f32⟩

abbrev bufTy : (tb : Table) → Fin (tcTables nBuf tb) → BufTy
  | .hbm, ⟨i, _⟩ => hbmTy i
  | _, _ => ⟨S64x64x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_c : Ref sig .tc := ⟨.hbm, 27, rfl⟩
abbrev main_v7_0 : Ref sig .tc := ⟨.hbm, 28, rfl⟩
abbrev main_v7_1 : Ref sig .tc := ⟨.hbm, 29, rfl⟩
abbrev main_v7_2 : Ref sig .tc := ⟨.hbm, 30, rfl⟩
abbrev main_v7_3 : Ref sig .tc := ⟨.hbm, 31, rfl⟩
abbrev main_v7_4 : Ref sig .tc := ⟨.hbm, 32, rfl⟩
abbrev main_v7_5 : Ref sig .tc := ⟨.hbm, 33, rfl⟩
abbrev main_v7_6 : Ref sig .tc := ⟨.hbm, 34, rfl⟩
abbrev main_while0c_c_29 : Ref sig .tc := ⟨.hbm, 35, rfl⟩
abbrev main_while0c_v146 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_v0 : Ref sig .tc := ⟨.hbm, 39, rfl⟩
abbrev main_while0b_v146 : Ref sig .tc := ⟨.hbm, 40, rfl⟩
abbrev main_while0b_v147 : Ref sig .tc := ⟨.hbm, 41, rfl⟩
abbrev main_while0b_v148 : Ref sig .tc := ⟨.hbm, 42, rfl⟩
abbrev main_while0b_v149 : Ref sig .tc := ⟨.hbm, 43, rfl⟩
abbrev main_while0b_v150 : Ref sig .tc := ⟨.hbm, 44, rfl⟩
abbrev main_while0b_v151 : Ref sig .tc := ⟨.hbm, 45, rfl⟩
abbrev main_while0b_v152 : Ref sig .tc := ⟨.hbm, 46, rfl⟩
abbrev main_while0b_v153 : Ref sig .tc := ⟨.hbm, 47, rfl⟩
abbrev main_while0b_v154 : Ref sig .tc := ⟨.hbm, 48, rfl⟩
abbrev main_while0b_v155 : Ref sig .tc := ⟨.hbm, 49, rfl⟩
abbrev main_while0b_v156 : Ref sig .tc := ⟨.hbm, 50, rfl⟩
abbrev main_while0b_v157 : Ref sig .tc := ⟨.hbm, 51, rfl⟩
abbrev main_while0b_v158 : Ref sig .tc := ⟨.hbm, 52, rfl⟩
abbrev main_while0b_v159 : Ref sig .tc := ⟨.hbm, 53, rfl⟩
abbrev main_while0b_v160 : Ref sig .tc := ⟨.hbm, 54, rfl⟩
abbrev main_while0b_cst_29 : Ref sig .tc := ⟨.hbm, 55, rfl⟩
abbrev main_while0b_v161 : Ref sig .tc := ⟨.hbm, 56, rfl⟩
abbrev main_while0b_v162 : Ref sig .tc := ⟨.hbm, 57, rfl⟩
abbrev main_while0b_cst_30 : Ref sig .tc := ⟨.hbm, 58, rfl⟩
abbrev main_while0b_v163 : Ref sig .tc := ⟨.hbm, 59, rfl⟩
abbrev main_while0b_v164 : Ref sig .tc := ⟨.hbm, 60, rfl⟩
abbrev main_while0b_v165 : Ref sig .tc := ⟨.hbm, 61, rfl⟩
abbrev main_while0b_v166 : Ref sig .tc := ⟨.hbm, 62, rfl⟩
abbrev main_while0b_v167 : Ref sig .tc := ⟨.hbm, 63, rfl⟩
abbrev main_while0b_cst_31 : Ref sig .tc := ⟨.hbm, 64, rfl⟩
abbrev main_while0b_v168 : Ref sig .tc := ⟨.hbm, 65, rfl⟩
abbrev main_while0b_v169 : Ref sig .tc := ⟨.hbm, 66, rfl⟩
abbrev main_while0b_cst_32 : Ref sig .tc := ⟨.hbm, 67, rfl⟩
abbrev main_while0b_v170 : Ref sig .tc := ⟨.hbm, 68, rfl⟩
abbrev main_while0b_v171 : Ref sig .tc := ⟨.hbm, 69, rfl⟩
abbrev main_while0b_v172 : Ref sig .tc := ⟨.hbm, 70, rfl⟩
abbrev main_while0b_v173 : Ref sig .tc := ⟨.hbm, 71, rfl⟩
abbrev main_while0b_v174 : Ref sig .tc := ⟨.hbm, 72, rfl⟩
abbrev main_while0b_v175 : Ref sig .tc := ⟨.hbm, 73, rfl⟩
abbrev main_while0b_v176 : Ref sig .tc := ⟨.hbm, 74, rfl⟩
abbrev main_while0b_cst_33 : Ref sig .tc := ⟨.hbm, 75, rfl⟩
abbrev main_while0b_v177 : Ref sig .tc := ⟨.hbm, 76, rfl⟩
abbrev main_while0b_v178 : Ref sig .tc := ⟨.hbm, 77, rfl⟩
abbrev main_while0b_cst_34 : Ref sig .tc := ⟨.hbm, 78, rfl⟩
abbrev main_while0b_v179 : Ref sig .tc := ⟨.hbm, 79, rfl⟩
abbrev main_while0b_v180 : Ref sig .tc := ⟨.hbm, 80, rfl⟩
abbrev main_while0b_v181 : Ref sig .tc := ⟨.hbm, 81, rfl⟩
abbrev main_while0b_v182 : Ref sig .tc := ⟨.hbm, 82, rfl⟩
abbrev main_while0b_c_35 : Ref sig .tc := ⟨.hbm, 83, rfl⟩
abbrev main_while0b_v183 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_cst_0 : Ref sig .tc := ⟨.hbm, 101, rfl⟩
abbrev main_v24 : Ref sig .tc := ⟨.hbm, 102, rfl⟩
abbrev main_v25 : Ref sig .tc := ⟨.hbm, 103, rfl⟩
abbrev main_cst_1 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_cst_2 : Ref sig .tc := ⟨.hbm, 110, rfl⟩
abbrev main_v31 : Ref sig .tc := ⟨.hbm, 111, rfl⟩
abbrev main_v32 : Ref sig .tc := ⟨.hbm, 112, rfl⟩
abbrev main_cst_3 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_cst_4 : Ref sig .tc := ⟨.hbm, 121, rfl⟩
abbrev main_v40 : Ref sig .tc := ⟨.hbm, 122, rfl⟩
abbrev main_v41 : Ref sig .tc := ⟨.hbm, 123, rfl⟩
abbrev main_cst_5 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_cst_6 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_cst_7 : Ref sig .tc := ⟨.hbm, 149, rfl⟩
abbrev main_v65 : Ref sig .tc := ⟨.hbm, 150, rfl⟩
abbrev main_v66 : Ref sig .tc := ⟨.hbm, 151, rfl⟩
abbrev main_cst_8 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_cst_9 : Ref sig .tc := ⟨.hbm, 158, rfl⟩
abbrev main_v72 : Ref sig .tc := ⟨.hbm, 159, rfl⟩
abbrev main_v73 : Ref sig .tc := ⟨.hbm, 160, rfl⟩
abbrev main_cst_10 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_cst_11 : Ref sig .tc := ⟨.hbm, 169, rfl⟩
abbrev main_v81 : Ref sig .tc := ⟨.hbm, 170, rfl⟩
abbrev main_v82 : Ref sig .tc := ⟨.hbm, 171, rfl⟩
abbrev main_cst_12 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_cst_13 : Ref sig .tc := ⟨.hbm, 193, rfl⟩
abbrev main_v103 : Ref sig .tc := ⟨.hbm, 194, rfl⟩
abbrev main_v104 : Ref sig .tc := ⟨.hbm, 195, rfl⟩
abbrev main_cst_14 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_cst_15 : Ref sig .tc := ⟨.hbm, 202, rfl⟩
abbrev main_v110 : Ref sig .tc := ⟨.hbm, 203, rfl⟩
abbrev main_v111 : Ref sig .tc := ⟨.hbm, 204, rfl⟩
abbrev main_cst_16 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_17 : Ref sig .tc := ⟨.hbm, 213, rfl⟩
abbrev main_v119 : Ref sig .tc := ⟨.hbm, 214, rfl⟩
abbrev main_v120 : Ref sig .tc := ⟨.hbm, 215, rfl⟩
abbrev main_cst_18 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_c_19 : Ref sig .tc := ⟨.hbm, 225, rfl⟩
abbrev main_v129_0 : Ref sig .tc := ⟨.hbm, 226, rfl⟩
abbrev main_v129_1 : Ref sig .tc := ⟨.hbm, 227, rfl⟩
abbrev main_v129_2 : Ref sig .tc := ⟨.hbm, 228, rfl⟩
abbrev main_v129_3 : Ref sig .tc := ⟨.hbm, 229, rfl⟩
abbrev main_v129_4 : Ref sig .tc := ⟨.hbm, 230, rfl⟩
abbrev main_v129_5 : Ref sig .tc := ⟨.hbm, 231, rfl⟩
abbrev main_v129_6 : Ref sig .tc := ⟨.hbm, 232, rfl⟩
abbrev main_v129_7 : Ref sig .tc := ⟨.hbm, 233, rfl⟩
abbrev main_v129_8 : Ref sig .tc := ⟨.hbm, 234, rfl⟩
abbrev main_v129_9 : Ref sig .tc := ⟨.hbm, 235, rfl⟩
abbrev main_while1c_c_32 : Ref sig .tc := ⟨.hbm, 236, rfl⟩
abbrev main_while1c_v146 : Ref sig .tc := ⟨.hbm, 237, rfl⟩
abbrev main_while1b_call1_c : Ref sig .tc := ⟨.hbm, 238, rfl⟩
abbrev main_while1b_call1_c_0 : Ref sig .tc := ⟨.hbm, 239, rfl⟩
abbrev main_while1b_call1_v0 : Ref sig .tc := ⟨.hbm, 240, rfl⟩
abbrev main_while1b_v146 : Ref sig .tc := ⟨.hbm, 241, rfl⟩
abbrev main_while1b_v147 : Ref sig .tc := ⟨.hbm, 242, rfl⟩
abbrev main_while1b_v148 : Ref sig .tc := ⟨.hbm, 243, rfl⟩
abbrev main_while1b_v149 : Ref sig .tc := ⟨.hbm, 244, rfl⟩
abbrev main_while1b_v150 : Ref sig .tc := ⟨.hbm, 245, rfl⟩
abbrev main_while1b_v151 : Ref sig .tc := ⟨.hbm, 246, rfl⟩
abbrev main_while1b_v152 : Ref sig .tc := ⟨.hbm, 247, rfl⟩
abbrev main_while1b_v153 : Ref sig .tc := ⟨.hbm, 248, rfl⟩
abbrev main_while1b_v154 : Ref sig .tc := ⟨.hbm, 249, rfl⟩
abbrev main_while1b_v155 : Ref sig .tc := ⟨.hbm, 250, rfl⟩
abbrev main_while1b_v156 : Ref sig .tc := ⟨.hbm, 251, rfl⟩
abbrev main_while1b_v157 : Ref sig .tc := ⟨.hbm, 252, rfl⟩
abbrev main_while1b_v158 : Ref sig .tc := ⟨.hbm, 253, rfl⟩
abbrev main_while1b_v159 : Ref sig .tc := ⟨.hbm, 254, rfl⟩
abbrev main_while1b_v160 : Ref sig .tc := ⟨.hbm, 255, rfl⟩
abbrev main_while1b_cst_32 : Ref sig .tc := ⟨.hbm, 256, rfl⟩
abbrev main_while1b_v161 : Ref sig .tc := ⟨.hbm, 257, rfl⟩
abbrev main_while1b_v162 : Ref sig .tc := ⟨.hbm, 258, rfl⟩
abbrev main_while1b_cst_33 : Ref sig .tc := ⟨.hbm, 259, rfl⟩
abbrev main_while1b_v163 : Ref sig .tc := ⟨.hbm, 260, rfl⟩
abbrev main_while1b_v164 : Ref sig .tc := ⟨.hbm, 261, rfl⟩
abbrev main_while1b_v165 : Ref sig .tc := ⟨.hbm, 262, rfl⟩
abbrev main_while1b_v166 : Ref sig .tc := ⟨.hbm, 263, rfl⟩
abbrev main_while1b_v167 : Ref sig .tc := ⟨.hbm, 264, rfl⟩
abbrev main_while1b_cst_34 : Ref sig .tc := ⟨.hbm, 265, rfl⟩
abbrev main_while1b_v168 : Ref sig .tc := ⟨.hbm, 266, rfl⟩
abbrev main_while1b_v169 : Ref sig .tc := ⟨.hbm, 267, rfl⟩
abbrev main_while1b_cst_35 : Ref sig .tc := ⟨.hbm, 268, rfl⟩
abbrev main_while1b_v170 : Ref sig .tc := ⟨.hbm, 269, rfl⟩
abbrev main_while1b_v171 : Ref sig .tc := ⟨.hbm, 270, rfl⟩
abbrev main_while1b_v172 : Ref sig .tc := ⟨.hbm, 271, rfl⟩
abbrev main_while1b_v173 : Ref sig .tc := ⟨.hbm, 272, rfl⟩
abbrev main_while1b_v174 : Ref sig .tc := ⟨.hbm, 273, rfl⟩
abbrev main_while1b_v175 : Ref sig .tc := ⟨.hbm, 274, rfl⟩
abbrev main_while1b_v176 : Ref sig .tc := ⟨.hbm, 275, rfl⟩
abbrev main_while1b_cst_36 : Ref sig .tc := ⟨.hbm, 276, rfl⟩
abbrev main_while1b_v177 : Ref sig .tc := ⟨.hbm, 277, rfl⟩
abbrev main_while1b_v178 : Ref sig .tc := ⟨.hbm, 278, rfl⟩
abbrev main_while1b_cst_37 : Ref sig .tc := ⟨.hbm, 279, rfl⟩
abbrev main_while1b_v179 : Ref sig .tc := ⟨.hbm, 280, rfl⟩
abbrev main_while1b_v180 : Ref sig .tc := ⟨.hbm, 281, rfl⟩
abbrev main_while1b_v181 : Ref sig .tc := ⟨.hbm, 282, rfl⟩
abbrev main_while1b_v182 : Ref sig .tc := ⟨.hbm, 283, rfl⟩
abbrev main_while1b_v183 : Ref sig .tc := ⟨.hbm, 284, rfl⟩
abbrev main_while1b_v184 : Ref sig .tc := ⟨.hbm, 285, rfl⟩
abbrev main_while1b_v185 : Ref sig .tc := ⟨.hbm, 286, rfl⟩
abbrev main_while1b_v186 : Ref sig .tc := ⟨.hbm, 287, rfl⟩
abbrev main_while1b_v187 : Ref sig .tc := ⟨.hbm, 288, rfl⟩
abbrev main_while1b_v188 : Ref sig .tc := ⟨.hbm, 289, rfl⟩
abbrev main_while1b_v189 : Ref sig .tc := ⟨.hbm, 290, rfl⟩
abbrev main_while1b_v190 : Ref sig .tc := ⟨.hbm, 291, rfl⟩
abbrev main_while1b_v191 : Ref sig .tc := ⟨.hbm, 292, rfl⟩
abbrev main_while1b_v192 : Ref sig .tc := ⟨.hbm, 293, rfl⟩
abbrev main_while1b_v193 : Ref sig .tc := ⟨.hbm, 294, rfl⟩
abbrev main_while1b_v194 : Ref sig .tc := ⟨.hbm, 295, rfl⟩
abbrev main_while1b_v195 : Ref sig .tc := ⟨.hbm, 296, rfl⟩
abbrev main_while1b_v196 : Ref sig .tc := ⟨.hbm, 297, rfl⟩
abbrev main_while1b_cst_38 : Ref sig .tc := ⟨.hbm, 298, rfl⟩
abbrev main_while1b_v197 : Ref sig .tc := ⟨.hbm, 299, rfl⟩
abbrev main_while1b_v198 : Ref sig .tc := ⟨.hbm, 300, rfl⟩
abbrev main_while1b_cst_39 : Ref sig .tc := ⟨.hbm, 301, rfl⟩
abbrev main_while1b_v199 : Ref sig .tc := ⟨.hbm, 302, rfl⟩
abbrev main_while1b_v200 : Ref sig .tc := ⟨.hbm, 303, rfl⟩
abbrev main_while1b_v201 : Ref sig .tc := ⟨.hbm, 304, rfl⟩
abbrev main_while1b_v202 : Ref sig .tc := ⟨.hbm, 305, rfl⟩
abbrev main_while1b_v203 : Ref sig .tc := ⟨.hbm, 306, rfl⟩
abbrev main_while1b_cst_40 : Ref sig .tc := ⟨.hbm, 307, rfl⟩
abbrev main_while1b_v204 : Ref sig .tc := ⟨.hbm, 308, rfl⟩
abbrev main_while1b_v205 : Ref sig .tc := ⟨.hbm, 309, rfl⟩
abbrev main_while1b_cst_41 : Ref sig .tc := ⟨.hbm, 310, rfl⟩
abbrev main_while1b_v206 : Ref sig .tc := ⟨.hbm, 311, rfl⟩
abbrev main_while1b_v207 : Ref sig .tc := ⟨.hbm, 312, rfl⟩
abbrev main_while1b_v208 : Ref sig .tc := ⟨.hbm, 313, rfl⟩
abbrev main_while1b_v209 : Ref sig .tc := ⟨.hbm, 314, rfl⟩
abbrev main_while1b_v210 : Ref sig .tc := ⟨.hbm, 315, rfl⟩
abbrev main_while1b_v211 : Ref sig .tc := ⟨.hbm, 316, rfl⟩
abbrev main_while1b_v212 : Ref sig .tc := ⟨.hbm, 317, rfl⟩
abbrev main_while1b_cst_42 : Ref sig .tc := ⟨.hbm, 318, rfl⟩
abbrev main_while1b_v213 : Ref sig .tc := ⟨.hbm, 319, rfl⟩
abbrev main_while1b_v214 : Ref sig .tc := ⟨.hbm, 320, rfl⟩
abbrev main_while1b_cst_43 : Ref sig .tc := ⟨.hbm, 321, rfl⟩
abbrev main_while1b_v215 : Ref sig .tc := ⟨.hbm, 322, rfl⟩
abbrev main_while1b_v216 : Ref sig .tc := ⟨.hbm, 323, rfl⟩
abbrev main_while1b_v217 : Ref sig .tc := ⟨.hbm, 324, rfl⟩
abbrev main_while1b_v218 : Ref sig .tc := ⟨.hbm, 325, rfl⟩
abbrev main_while1b_v219 : Ref sig .tc := ⟨.hbm, 326, rfl⟩
abbrev main_while1b_v220 : Ref sig .tc := ⟨.hbm, 327, rfl⟩
abbrev main_while1b_v221 : Ref sig .tc := ⟨.hbm, 328, rfl⟩
abbrev main_while1b_v222 : Ref sig .tc := ⟨.hbm, 329, rfl⟩
abbrev main_while1b_v223 : Ref sig .tc := ⟨.hbm, 330, rfl⟩
abbrev main_while1b_v224 : Ref sig .tc := ⟨.hbm, 331, rfl⟩
abbrev main_while1b_v225 : Ref sig .tc := ⟨.hbm, 332, rfl⟩
abbrev main_while1b_v226 : Ref sig .tc := ⟨.hbm, 333, rfl⟩
abbrev main_while1b_v227 : Ref sig .tc := ⟨.hbm, 334, rfl⟩
abbrev main_while1b_v228 : Ref sig .tc := ⟨.hbm, 335, rfl⟩
abbrev main_while1b_v229 : Ref sig .tc := ⟨.hbm, 336, rfl⟩
abbrev main_while1b_v230 : Ref sig .tc := ⟨.hbm, 337, rfl⟩
abbrev main_while1b_v231 : Ref sig .tc := ⟨.hbm, 338, rfl⟩
abbrev main_while1b_v232 : Ref sig .tc := ⟨.hbm, 339, rfl⟩
abbrev main_while1b_cst_44 : Ref sig .tc := ⟨.hbm, 340, rfl⟩
abbrev main_while1b_v233 : Ref sig .tc := ⟨.hbm, 341, rfl⟩
abbrev main_while1b_v234 : Ref sig .tc := ⟨.hbm, 342, rfl⟩
abbrev main_while1b_cst_45 : Ref sig .tc := ⟨.hbm, 343, rfl⟩
abbrev main_while1b_v235 : Ref sig .tc := ⟨.hbm, 344, rfl⟩
abbrev main_while1b_v236 : Ref sig .tc := ⟨.hbm, 345, rfl⟩
abbrev main_while1b_v237 : Ref sig .tc := ⟨.hbm, 346, rfl⟩
abbrev main_while1b_v238 : Ref sig .tc := ⟨.hbm, 347, rfl⟩
abbrev main_while1b_v239 : Ref sig .tc := ⟨.hbm, 348, rfl⟩
abbrev main_while1b_cst_46 : Ref sig .tc := ⟨.hbm, 349, rfl⟩
abbrev main_while1b_v240 : Ref sig .tc := ⟨.hbm, 350, rfl⟩
abbrev main_while1b_v241 : Ref sig .tc := ⟨.hbm, 351, rfl⟩
abbrev main_while1b_cst_47 : Ref sig .tc := ⟨.hbm, 352, rfl⟩
abbrev main_while1b_v242 : Ref sig .tc := ⟨.hbm, 353, rfl⟩
abbrev main_while1b_v243 : Ref sig .tc := ⟨.hbm, 354, rfl⟩
abbrev main_while1b_v244 : Ref sig .tc := ⟨.hbm, 355, rfl⟩
abbrev main_while1b_v245 : Ref sig .tc := ⟨.hbm, 356, rfl⟩
abbrev main_while1b_v246 : Ref sig .tc := ⟨.hbm, 357, rfl⟩
abbrev main_while1b_v247 : Ref sig .tc := ⟨.hbm, 358, rfl⟩
abbrev main_while1b_v248 : Ref sig .tc := ⟨.hbm, 359, rfl⟩
abbrev main_while1b_cst_48 : Ref sig .tc := ⟨.hbm, 360, rfl⟩
abbrev main_while1b_v249 : Ref sig .tc := ⟨.hbm, 361, rfl⟩
abbrev main_while1b_v250 : Ref sig .tc := ⟨.hbm, 362, rfl⟩
abbrev main_while1b_cst_49 : Ref sig .tc := ⟨.hbm, 363, rfl⟩
abbrev main_while1b_v251 : Ref sig .tc := ⟨.hbm, 364, rfl⟩
abbrev main_while1b_v252 : Ref sig .tc := ⟨.hbm, 365, rfl⟩
abbrev main_while1b_v253 : Ref sig .tc := ⟨.hbm, 366, rfl⟩
abbrev main_while1b_v254 : Ref sig .tc := ⟨.hbm, 367, rfl⟩
abbrev main_while1b_v255 : Ref sig .tc := ⟨.hbm, 368, rfl⟩
abbrev main_while1b_c_50 : Ref sig .tc := ⟨.hbm, 369, rfl⟩
abbrev main_while1b_v256 : Ref sig .tc := ⟨.hbm, 370, rfl⟩
abbrev main_v130 : Ref sig .tc := ⟨.hbm, 371, rfl⟩
abbrev main_v131 : Ref sig .tc := ⟨.hbm, 372, rfl⟩
abbrev main_v132 : Ref sig .tc := ⟨.hbm, 373, rfl⟩
abbrev main_v133 : Ref sig .tc := ⟨.hbm, 374, rfl⟩
abbrev main_v134 : Ref sig .tc := ⟨.hbm, 375, rfl⟩
abbrev main_cst_20 : Ref sig .tc := ⟨.hbm, 376, rfl⟩
abbrev main_v135 : Ref sig .tc := ⟨.hbm, 377, rfl⟩
abbrev main_cst_21 : Ref sig .tc := ⟨.hbm, 378, rfl⟩
abbrev main_v136 : Ref sig .tc := ⟨.hbm, 379, rfl⟩
abbrev main_v137 : Ref sig .tc := ⟨.hbm, 380, rfl⟩
abbrev main_v138 : Ref sig .tc := ⟨.hbm, 381, rfl⟩
abbrev main_v139 : Ref sig .tc := ⟨.hbm, 382, rfl⟩
abbrev main_v140 : Ref sig .tc := ⟨.hbm, 383, rfl⟩
abbrev main_v141 : Ref sig .tc := ⟨.hbm, 384, rfl⟩
abbrev main_cst_22 : Ref sig .tc := ⟨.hbm, 385, rfl⟩
abbrev main_v142 : Ref sig .tc := ⟨.hbm, 386, rfl⟩
abbrev main_v143 : Ref sig .tc := ⟨.hbm, 387, rfl⟩
abbrev main_v144 : Ref sig .tc := ⟨.hbm, 388, rfl⟩
abbrev main_v145 : Ref sig .tc := ⟨.hbm, 389, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 63#32, 1#32⟩
-- ==== Proof.K0.lean ====
module
public import proofs.«01_k».proof.Proof.Gen.KernelIdeal.Frame
public import Idealize.ShloMosaic.Lib.Pointwise

@[expose] public section

/-! What one block of the first region computes: eight steps of the forward cell per trip, 32 trips, and one backward step. -/

set_option maxRecDepth 16384

noncomputable section

namespace Cert.KernelIdeal.Val
open Cert.KernelIdeal Cert.KernelIdeal.Gen
open Idealize.ShloMosaic Idealize.ShloMosaic.TcCoe Idealize.ShloMosaic.Tactic

variable {F : FTy → Type} [FloatOps F]

/-- The gate values of one step on 2048 lanes, from the hidden state and one row of inputs. -/
def gK (v0 : Vec F S128x32 .f32) (v1 v3 : FVec F S128x1 .f32) (h : FVec F S32x2048 .f32) (x : FVec F S1x2048 .f32) : FVec F S128x2048 .f32 :=
  addf (matmul dot_S128x32_S32x2048_S128x2048_1_0_0_1_n_n none v0 h (constant S128x2048 .f32 0x00000000#32))
    (addf (mulf (broadcastTo S128x2048 v1 broadcasts_S128x1_S128x2048) (broadcastTo S128x2048 x broadcasts_S1x2048_S128x2048))
      (broadcastTo S128x2048 v3 broadcasts_S128x1_S128x2048))
/-- The new cell state. -/
def cK (g : FVec F S128x2048 .f32) (c : FVec F S32x2048 .f32) : FVec F S32x2048 .f32 :=
  addf (mulf (logistic (extractStridedSlice S32x2048 ![32, 0] g slices_S128x2048_o32_0_S32x2048)) c)
    (mulf (logistic (extractStridedSlice S32x2048 ![0, 0] g slices_S128x2048_o0_0_S32x2048))
      (tanh (extractStridedSlice S32x2048 ![64, 0] g slices_S128x2048_o64_0_S32x2048)))
/-- The new hidden state. -/
def hK (g : FVec F S128x2048 .f32) (c : FVec F S32x2048 .f32) : FVec F S32x2048 .f32 :=
  mulf (logistic (extractStridedSlice S32x2048 ![96, 0] g slices_S128x2048_o96_0_S32x2048)) (tanh c)
/-- One step of the forward cell on the pair (hidden state, cell state). -/
def stepK (v0 : Vec F S128x32 .f32) (v1 v3 : FVec F S128x1 .f32) (x : FVec F S1x2048 .f32) (s : FVec F S32x2048 .f32 × FVec F S32x2048 .f32) :
    FVec F S32x2048 .f32 × FVec F S32x2048 .f32 :=
  let g := gK v0 v1 v3 s.1 x
  let c' := cK g s.2
  (hK g c', c')
/-- Row `j` of eight rows. -/
def rowOf (j : ℕ) (h : S8x2048.Slices ![j, 0] S1x2048) (x : FVec F S8x2048 .f32) : FVec F S1x2048 .f32 := extractStridedSlice S1x2048 ![j, 0] x h

/-- One trip of the loop: eight steps on the eight rows read. -/
def trip8 (v0 : Vec F S128x32 .f32) (v1 v3 : FVec F S128x1 .f32) (x : FVec F S8x2048 .f32) (s0 : FVec F S32x2048 .f32 × FVec F S32x2048 .f32) :
    FVec F S32x2048 .f32 × FVec F S32x2048 .f32 :=
  let s1 := stepK v0 v1 v3 (rowOf 0 slices_S8x2048_o0_0_S1x2048 x) s0
  let s2 := stepK v0 v1 v3 (rowOf 1 slices_S8x2048_o1_0_S1x2048 x) s1
  let s3 := stepK v0 v1 v3 (rowOf 2 slices_S8x2048_o2_0_S1x2048 x) s2
  let s4 := stepK v0 v1 v3 (rowOf 3 slices_S8x2048_o3_0_S1x2048 x) s3
  let s5 := stepK v0 v1 v3 (rowOf 4 slices_S8x2048_o4_0_S1x2048 x) s4
  let s6 := stepK v0 v1 v3 (rowOf 5 slices_S8x2048_o5_0_S1x2048 x) s5
  let s7 := stepK v0 v1 v3 (rowOf 6 slices_S8x2048_o6_0_S1x2048 x) s6
  let s8 := stepK v0 v1 v3 (rowOf 7 slices_S8x2048_o7_0_S1x2048 x) s7
  s8

set_option maxHeartbeats 4000000 in
/-- The loop's trip is those eight steps on the rows it loads. -/
theorem trip_eq (c : Dev nD) (i : grid0.Coords) (arg1 : Memref sig .tc .vmem S256x2048 .f32) (harg1 : arg1.IsWhole) (arg2 : Memref sig .tc .vmem S128x32 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S64x2048 .f32) (harg7 : arg7.IsWhole)
    (v0 : Vec F S128x32 .f32) (v1 v2 : Vec F S128x1 .f32) (X : Vec F S256x2048 .f32) (k : Fin k0_t1_loop.trips) (s : FVec F S32x2048 .f32 × FVec F S32x2048 .f32) :
    tripR_k0_t1 Variants.none c none i arg1 harg1 arg2 harg2 arg3 harg3 arg4 harg4 arg5 harg5 arg6 harg6 arg7 harg7 v0 v1 v2 (harg1.unread X) k s
      = trip8 v0 v1 (k0_pay1 v2) (k0_pay6 (View.ld X (Rect.unit (s := S256x2048) (k0_off1 k) S8x2048.size (k0_off1_inb k)))) s := by
  unfold tripR_k0_t1 trip_k0_t1
  dsimp only
  sl_unfold_words
  simp only [View.readAt_eq_ld, harg1.read_unread]
  rfl

/-- The state after `k` trips. -/
def stK (v0 : Vec F S128x32 .f32) (v1 v3 : FVec F S128x1 .f32) (X : Vec F S256x2048 .f32) : ℕ → FVec F S32x2048 .f32 × FVec F S32x2048 .f32
  | 0 => (k0_pay2, k0_pay2)
  | k + 1 => if h : k < k0_t1_loop.trips then
      trip8 v0 v1 v3 (k0_pay6 (View.ld X (Rect.unit (s := S256x2048) (k0_off1 ⟨k, h⟩) S8x2048.size (k0_off1_inb ⟨k, h⟩)))) (stK v0 v1 v3 X k)
    else stK v0 v1 v3 X k

/-- The loop's state is that recursion. -/
theorem st_eq (c : Dev nD) (i : grid0.Coords) (arg1 : Memref sig .tc .vmem S256x2048 .f32) (harg1 : arg1.IsWhole) (arg2 : Memref sig .tc .vmem S128x32 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S64x2048 .f32) (harg7 : arg7.IsWhole)
    (v0 : Vec F S128x32 .f32) (v1 v2 : Vec F S128x1 .f32) (X : Vec F S256x2048 .f32) : ∀ k : ℕ, k ≤ k0_t1_loop.trips →
    st_k0_t1 Variants.none c none i arg1 harg1 arg2 harg2 arg3 harg3 arg4 harg4 arg5 harg5 arg6 harg6 arg7 harg7 v0 v1 v2 (harg1.unread X) (k0_pay2, k0_pay2) k = stK v0 v1 (k0_pay1 v2) X k
  | 0, _ => rfl
  | k + 1, h => by
    rw [st_k0_t1_succ Variants.none c none i arg1 harg1 arg2 harg2 arg3 harg3 arg4 harg4 arg5 harg5 arg6 harg6 arg7 harg7 v0 v1 v2 (harg1.unread X) (k0_pay2, k0_pay2) ⟨k, h⟩, trip_eq, st_eq c i arg1 harg1 arg2 harg2 arg3 harg3 arg4 harg4 arg5 harg5 arg6 harg6 arg7 harg7 v0 v1 v2 X k (by omega), stK, dif_pos (show k < k0_t1_loop.trips from h)]

section Out
variable (V : (c : Dev nD) → (b : Ref sig .tc) → Buf (Elt F) ((c : Thread nD τ).loc b))

/-- What the region leaves in the block of a grid point. -/
theorem out0_eq (c : Dev nD) (t : Fin cfg0.N) : outsAt0 V c t
    = k0_pay5 (stK (iblk0 V c 1 t) (iblk0 V c 2 t) (k0_pay1 (iblk0 V c 3 t)) (iblk0 V c 0 t) 32).1 (iblk0 V c 4 t)
        (View.ld (iblk0 V c 0 t : Vec F S256x2048 .f32) (Rect.unit (s := S256x2048) ![255, 0] ![1, 2048] inb_S256x2048_S1x2048_255_0)) (iblk0 V c 5 t) := by
  unfold outsAt0 out0_A_6
  rw [View.read_writes_eq_canon _ _ _ (fun y => cover0_A_6 c _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  have z : (![0, 0] : Fin 2 → ℕ) = fun _ => 0 := by decide
  rw [View.canon_unit_zero z]
  simp only [View.ld_unit_zero (S := S128x32) z, View.ld_unit_zero (S := S128x1) z]
  rw [show Scf.trips (0#32) (Scalar.addi 0#32 32#32) 1#32 = 32 from by decide +kernel]
  rw [st_eq c _ _ _ _ _ _ _ _ _ _ _ _ _ _ _ _ _ _ _ 32 (by decide +kernel)]
  rfl

end Out

end Cert.KernelIdeal.Val

end
-- ==== Proof.Spec.lean ====
module
public import Idealize.ShloMosaic.Lib.Pointwise

@[expose] public section

/-! The mathematics of the two-level recurrent network on one lane, over the extended reals. -/

noncomputable section

namespace Cert.Spec
open Idealize.ShloMosaic

/-- A vector over the extended reals. -/
abbrev Vec (n : ℕ) := Fin n → EReal
/-- A matrix over the extended reals. -/
abbrev Mat (m n : ℕ) := Fin m → Fin n → EReal

/-- The logistic function. -/
abbrev sg (x : EReal) : EReal := Ideal.div 1 (1 + Ideal.exp (-x))
/-- The hyperbolic tangent. -/
abbrev th (x : EReal) : EReal := Ideal.tanh x

/-- Row `o + k` of a stack of 128 gate rows. -/
abbrev row (o : ℕ) (h : o + 32 ≤ 128) (k : Fin 32) : Fin 128 := ⟨o + k.1, by omega⟩

/-- The new cell state from the 128 gate values and the old cell state. -/
def cellC (g : Vec 128) (c : Vec 32) (k : Fin 32) : EReal :=
  sg (g (row 32 (by decide) k)) * c k + sg (g ⟨k.1, by omega⟩) * th (g (row 64 (by decide) k))

/-- The new hidden state from the gate values and the new cell state. -/
def cellH (g : Vec 128) (c' : Vec 32) (k : Fin 32) : EReal := sg (g (row 96 (by decide) k)) * th (c' k)

/-- The gate values of the first level: one scalar input. -/
def gates1 (wih : Vec 128) (whh : Mat 128 32) (b : Vec 128) (x : EReal) (h : Vec 32) (r : Fin 128) : EReal :=
  (x * wih r + ∑ k, h k * whh r k) + b r

/-- The gate values of the second level: 64 inputs. -/
def gates2 (wih : Mat 128 64) (whh : Mat 128 32) (b : Vec 128) (f : Vec 64) (h : Vec 32) (r : Fin 128) : EReal :=
  (∑ j, f j * wih r j + ∑ k, h k * whh r k) + b r

/-- One step of a cell on the pair (hidden state, cell state), given the gates as a function of the hidden state. -/
def step (G : Vec 32 → Vec 128) (s : Vec 32 × Vec 32) : Vec 32 × Vec 32 :=
  let g := G s.1
  (cellH g (cellC g s.2), cellC g s.2)

/-- The zero state. -/
def s0 : Vec 32 × Vec 32 := (fun _ => 0, fun _ => 0)

/-- The forward first-level state after `t` inputs. -/
def scan (wih : Vec 128) (whh : Mat 128 32) (b : Vec 128) (x : ℕ → EReal) : ℕ → Vec 32 × Vec 32
  | 0 => s0
  | t + 1 => step (gates1 wih whh b (x t)) (scan wih whh b x t)

/-- Two vectors of 32 side by side. -/
def cat (a b : Vec 32) (j : Fin 64) : EReal :=
  if h : j.1 < 32 then a ⟨j.1, h⟩ else b ⟨j.1 - 32, by omega⟩

/-- The weights of the network. -/
structure Weights where
  /-- input weights, forward, first level -/
  wihf : Vec 128
  /-- hidden weights, forward, first level -/
  whhf : Mat 128 32
  /-- bias, forward, first level -/
  bf : Vec 128
  /-- input weights, backward, first level -/
  wihb : Vec 128
  /-- hidden weights, backward, first level -/
  whhb : Mat 128 32
  /-- bias, backward, first level -/
  bb : Vec 128
  /-- input weights, forward, second level -/
  wihf2 : Mat 128 64
  /-- hidden weights, forward, second level -/
  whhf2 : Mat 128 32
  /-- bias, forward, second level -/
  bf2 : Vec 128
  /-- input weights, backward, second level -/
  wihb2 : Mat 128 64
  /-- hidden weights, backward, second level -/
  whhb2 : Mat 128 32
  /-- bias, backward, second level -/
  bb2 : Vec 128
  /-- the linear layer's weights -/
  wl : Mat 2 64
  /-- the linear layer's bias -/
  bl : Vec 2

variable (W : Weights)

/-- The first-level features of one sequence: the last forward state and one backward step on the last input. -/
def feat (x : ℕ → EReal) : Vec 64 :=
  cat (scan W.wihf W.whhf W.bf x 256).1 (step (gates1 W.wihb W.whhb W.bb (x 255)) s0).1

/-- The second-level features of the leaf. -/
def leaf (f : Vec 64) : Vec 64 :=
  cat (step (gates2 W.wihf2 W.whhf2 W.bf2 f) s0).1 (step (gates2 W.wihb2 W.whhb2 W.bb2 f) s0).1

/-- One step up the chain: from a new node's features `n` and the running features `f`. -/
def up (n f : Vec 64) : Vec 64 :=
  cat (step (gates2 W.wihf2 W.whhf2 W.bf2 f) (step (gates2 W.wihf2 W.whhf2 W.bf2 n) s0)).1
    (step (gates2 W.wihb2 W.whhb2 W.bb2 f) s0).1

/-- The running features after `k` nodes, from the nodes' features in the order they are met. -/
def climb (nf : ℕ → Vec 64) (f₀ : Vec 64) : ℕ → Vec 64
  | 0 => f₀
  | k + 1 => up W (nf k) (climb nf f₀ k)

/-- The two scores. -/
def score (f : Vec 64) (q : Fin 2) : EReal := (∑ j, f j * W.wl q j) + W.bl q

/-- The normalised exponential of two scores. -/
def soft (l : Vec 2) (q : Fin 2) : EReal :=
  Ideal.div (Ideal.exp (l q - max (l 0) (l 1))) (Ideal.exp (l 0 - max (l 0) (l 1)) + Ideal.exp (l 1 - max (l 0) (l 1)))

/-- The whole network on one example: `nf m` are the features of its node `m`, the last being the leaf. -/
def net (nf : ℕ → Vec 64) : Vec 2 :=
  soft (score W (climb W (fun k => nf (62 - k)) (leaf W (nf 63)) 63))

end Cert.Spec

end
-- ==== Proof.K0Lane.lean ====
module
public import proofs.«01_k».proof.Proof.K0
public import proofs.«01_k».proof.Proof.Spec

@[expose] public section

/-! The first region's block read at one lane: the forward recurrence and the backward step. -/

set_option maxRecDepth 16384

noncomputable section

namespace Cert.KernelIdeal.Val
open Cert.KernelIdeal Cert.KernelIdeal.Gen Cert.Spec
open Idealize.ShloMosaic Idealize.ShloMosaic.TcCoe Idealize.ShloMosaic.Tactic

/-- A lane of the gate values. -/
theorem gK_at (v0 : Vec Ideal S128x32 .f32) (v1 v3 : FVec Ideal S128x1 .f32) (h : FVec Ideal S32x2048 .f32) (x : FVec Ideal S1x2048 .f32)
    (r : Fin 128) (n : Fin 2048) : gK v0 v1 v3 h x (ix2 r n)
      = gates1 (fun r => v1 (ix2 r 0)) (fun r k => v0 (ix2 r k)) (fun r => v3 (ix2 r 0)) (x (ix2 0 n)) (fun k => h (ix2 k n)) r := by
  unfold gates1
  pointwise [gK]
  simp only [mul_comm]
  rw [← add_assoc, add_comm (∑ _, _)]

/-- A lane of the new cell state. -/
theorem cK_at (g : FVec Ideal S128x2048 .f32) (c : FVec Ideal S32x2048 .f32) (k : Fin 32) (n : Fin 2048) :
    cK g c (ix2 k n) = cellC (fun r => g (ix2 r n)) (fun k => c (ix2 k n)) k := by
  unfold cellC
  pointwise [cK]
  rfl

/-- A lane of the new hidden state. -/
theorem hK_at (g : FVec Ideal S128x2048 .f32) (c : FVec Ideal S32x2048 .f32) (k : Fin 32) (n : Fin 2048) :
    hK g c (ix2 k n) = cellH (fun r => g (ix2 r n)) (fun k => c (ix2 k n)) k := by
  unfold cellH
  pointwise [hK]
  rfl

/-- A lane of a pair of states. -/
def laneS (s : FVec Ideal S32x2048 .f32 × FVec Ideal S32x2048 .f32) (n : Fin 2048) : Spec.Vec 32 × Spec.Vec 32 :=
  (fun k => s.1 (ix2 k n), fun k => s.2 (ix2 k n))

/-- A lane of one step. -/
theorem stepK_at (v0 : Vec Ideal S128x32 .f32) (v1 v3 : FVec Ideal S128x1 .f32) (x : FVec Ideal S1x2048 .f32)
    (s : FVec Ideal S32x2048 .f32 × FVec Ideal S32x2048 .f32) (n : Fin 2048) : laneS (stepK v0 v1 v3 x s) n
      = step (gates1 (fun r => v1 (ix2 r 0)) (fun r k => v0 (ix2 r k)) (fun r => v3 (ix2 r 0)) (x (ix2 0 n))) (laneS s n) := by
  have hg : (fun r => gK v0 v1 v3 s.1 x (ix2 r n)) = gates1 (fun r => v1 (ix2 r 0)) (fun r k => v0 (ix2 r k)) (fun r => v3 (ix2 r 0)) (x (ix2 0 n)) (laneS s n).1 :=
    funext fun r => gK_at v0 v1 v3 s.1 x r n
  have hc : (fun k => cK (gK v0 v1 v3 s.1 x) s.2 (ix2 k n))
      = cellC (gates1 (fun r => v1 (ix2 r 0)) (fun r k => v0 (ix2 r k)) (fun r => v3 (ix2 r 0)) (x (ix2 0 n)) (laneS s n).1) (laneS s n).2 := by
    funext k
    rw [cK_at, hg]
    rfl
  refine Prod.ext ?_ hc
  funext k
  show hK (gK v0 v1 v3 s.1 x) (cK (gK v0 v1 v3 s.1 x) s.2) (ix2 k n) = _
  rw [hK_at, hg, hc]
  rfl

/-- A lane of a row of eight. -/
theorem rowOf_at (j : ℕ) (hj : j < 8) (h : S8x2048.Slices ![j, 0] S1x2048) (x : FVec Ideal S8x2048 .f32) (n : Fin 2048) :
    rowOf j h x (ix2 0 n) = x (ix2 ⟨j, hj⟩ n) := by
  pointwise [rowOf]

/-- A lane of one trip: eight steps of the recurrence. -/
theorem trip8_at (v0 : Vec Ideal S128x32 .f32) (v1 v3 : FVec Ideal S128x1 .f32) (x : FVec Ideal S8x2048 .f32)
    (s : FVec Ideal S32x2048 .f32 × FVec Ideal S32x2048 .f32) (n : Fin 2048) (y : ℕ → EReal) (k : ℕ)
    (hy : ∀ j : Fin 8, x (ix2 j n) = y (8 * k + j.1))
    (hs : laneS s n = scan (fun r => v1 (ix2 r 0)) (fun r k => v0 (ix2 r k)) (fun r => v3 (ix2 r 0)) y (8 * k)) :
    laneS (trip8 v0 v1 v3 x s) n = scan (fun r => v1 (ix2 r 0)) (fun r k => v0 (ix2 r k)) (fun r => v3 (ix2 r 0)) y (8 * (k + 1)) := by
  unfold trip8
  dsimp only
  iterate 8 rw [stepK_at]
  rw [rowOf_at 0 (by decide), rowOf_at 1 (by decide), rowOf_at 2 (by decide), rowOf_at 3 (by decide), rowOf_at 4 (by decide), rowOf_at 5 (by decide),
    rowOf_at 6 (by decide), rowOf_at 7 (by decide), hy, hy, hy, hy, hy, hy, hy, hy, hs]
  rfl

/-- The zero state's lane. -/
theorem zeroK_at (n : Fin 2048) : laneS (k0_pay2 (F := Ideal), k0_pay2 (F := Ideal)) n = s0 := by
  have h : ∀ k, k0_pay2 (F := Ideal) (ix2 k n) = 0 := fun k => by pointwise [k0_pay2]
  exact Prod.ext (funext h) (funext h)

/-- Eight rows of the block, as the trip loads them. -/
theorem ld8_at (X : Vec Ideal S256x2048 .f32) (k : Fin k0_t1_loop.trips) (j : Fin 8) (n : Fin 2048) (hk : k.1 < 32) :
    k0_pay6 (View.ld X (Rect.unit (s := S256x2048) (k0_off1 k) S8x2048.size (k0_off1_inb k))) (ix2 j n) = X (ix2 ⟨8 * k.1 + j.1, by omega⟩ n) := by
  pointwise [k0_pay6]
  have e := k0_off1_eq k
  refine congrArg X (congrArg₂ (fun u v => ix2 u v) (Fin.ext ?_) (Fin.ext ?_))
  · show k0_off1 k 0 + j.1 = 8 * k.1 + j.1
    rw [e]
    rfl
  · show k0_off1 k 1 + n.1 = n.1
    rw [e]
    exact Nat.zero_add _

/-- The loop's state on one lane is the forward recurrence. -/
theorem stK_at (v0 : Vec Ideal S128x32 .f32) (v1 v3 : FVec Ideal S128x1 .f32) (X : Vec Ideal S256x2048 .f32) (n : Fin 2048) (y : ℕ → EReal)
    (hy : ∀ t : Fin 256, X (ix2 t n) = y t.1) : ∀ k, k ≤ 32 →
    laneS (stK v0 v1 v3 X k) n = scan (fun r => v1 (ix2 r 0)) (fun r k => v0 (ix2 r k)) (fun r => v3 (ix2 r 0)) y (8 * k)
  | 0, _ => zeroK_at n
  | k + 1, hk => by
    have ht : k0_t1_loop.trips = 32 := by decide +kernel
    rw [stK, dif_pos (show k < k0_t1_loop.trips by omega)]
    refine trip8_at v0 v1 v3 _ _ n y k (fun j => ?_) (stK_at v0 v1 v3 X n y hy k (by omega))
    rw [ld8_at X ⟨k, by omega⟩ j n (by omega), hy]

/-- A first step's gates lose the hidden term. -/
theorem gates1_zero (wih : Spec.Vec 128) (whh : Spec.Mat 128 32) (b : Spec.Vec 128) (x : EReal) (r : Fin 128) :
    gates1 wih whh b x s0.1 r = x * wih r + b r := by
  simp [gates1, s0]

/-- A first step's cell state loses the forget term. -/
theorem cellC_zero (g : Spec.Vec 128) (k : Fin 32) : cellC g s0.2 k = sg (g ⟨k.1, by omega⟩) * th (g (row 64 (by decide) k)) := by
  simp [cellC, s0]

/-- The gate values of the backward step, without a hidden term. -/
def gB (v7 : Vec Ideal S128x1 .f32) (v8 : Vec Ideal S1x2048 .f32) (v13 : Vec Ideal S128x1 .f32) : FVec Ideal S128x2048 .f32 :=
  addf (mulf (broadcastTo S128x2048 v7 broadcasts_S128x1_S128x2048)
      (broadcastTo S128x2048 (shapeCast S1x2048 v8 shapeCasts_S1x2048_S1x2048) broadcasts_S1x2048_S128x2048))
    (broadcastTo S128x2048 (shapeCast S128x1 v13 shapeCasts_S128x1_S128x1) broadcasts_S128x1_S128x2048)
/-- The hidden state of a first step, without a forget term. -/
def hB (g : FVec Ideal S128x2048 .f32) : FVec Ideal S32x2048 .f32 :=
  hK g (mulf (logistic (extractStridedSlice S32x2048 ![0, 0] g slices_S128x2048_o0_0_S32x2048))
      (tanh (extractStridedSlice S32x2048 ![64, 0] g slices_S128x2048_o64_0_S32x2048)))

/-- A lane of those gate values. -/
theorem gB_at (v7 : Vec Ideal S128x1 .f32) (v8 : Vec Ideal S1x2048 .f32) (v13 : Vec Ideal S128x1 .f32) (whh : Spec.Mat 128 32) (r : Fin 128) (n : Fin 2048) :
    gB v7 v8 v13 (ix2 r n) = gates1 (fun r => v7 (ix2 r 0)) whh (fun r => v13 (ix2 r 0)) (v8 (ix2 0 n)) s0.1 r := by
  rw [gates1_zero]
  pointwise [gB]
  rw [mul_comm]

/-- A lane of that hidden state. -/
theorem hB_at (g : FVec Ideal S128x2048 .f32) (k : Fin 32) (n : Fin 2048) :
    hB g (ix2 k n) = cellH (fun r => g (ix2 r n)) (cellC (fun r => g (ix2 r n)) s0.2) k := by
  rw [hB, hK_at]
  unfold cellH
  rw [cellC_zero]
  pointwise
  rfl

/-- The stored block on one lane. -/
theorem pay5_at (h : FVec Ideal S32x2048 .f32) (v7 : Vec Ideal S128x1 .f32) (v8 : Vec Ideal S1x2048 .f32) (v13 : Vec Ideal S128x1 .f32)
    (whh : Spec.Mat 128 32) (j : Fin 64) (n : Fin 2048) : k0_pay5 h v7 v8 v13 (ix2 j n)
      = cat (fun k => h (ix2 k n)) (step (gates1 (fun r => v7 (ix2 r 0)) whh (fun r => v13 (ix2 r 0)) (v8 (ix2 0 n))) s0).1 j := by
  have e : k0_pay5 h v7 v8 v13 = concatenate S64x2048 0 [⟨S32x2048, h⟩, ⟨S32x2048, hB (gB v7 v8 v13)⟩] concatenates_S32x2048_S32x2048_S64x2048_d0 := rfl
  have e2 : (fun k => hB (gB v7 v8 v13) (ix2 k n)) = (step (gates1 (fun r => v7 (ix2 r 0)) whh (fun r => v13 (ix2 r 0)) (v8 (ix2 0 n))) s0).1 := by
    funext k
    rw [hB_at, funext fun r => gB_at v7 v8 v13 whh r n]
    rfl
  rw [e, ← e2]
  unfold cat
  generalize hB (gB v7 v8 v13) = z
  pointwise

end Cert.KernelIdeal.Val

end
-- ==== Proof.K1.lean ====
module
public import proofs.«01_k».proof.Proof.Gen.KernelIdeal.Frame
public import Idealize.ShloMosaic.Lib.Pointwise

@[expose] public section

/-! What the second region computes: the nodes' own contributions eight nodes at a time, the leaf, 63 trips up the chain, and the two normalised scores. -/

set_option maxRecDepth 16384

noncomputable section

namespace Cert.KernelIdeal.Val
open Cert.KernelIdeal Cert.KernelIdeal.Gen
open Idealize.ShloMosaic Idealize.ShloMosaic.TcCoe Idealize.ShloMosaic.Tactic

variable {F : FTy → Type} [FloatOps F]

/-- Columns `512 q` to `512 q + 511` of the features: eight nodes. -/
def chunk (X : Vec F S64x4096 .f32) (q : ℕ) (h : ∀ a, (![0, 512 * q] : Fin 2 → ℕ) a + S64x512.size a ≤ S64x4096.size a) : Vec F S64x512 .f32 :=
  View.ld X (Rect.unit (s := S64x4096) ![0, 512 * q] S64x512.size h)

/-- The first cell's gate values on eight nodes, without a hidden term. -/
def gN (w : Vec F S128x64 .f32) (b : FVec F S128x1 .f32) (x : Vec F S64x512 .f32) : FVec F S128x512 .f32 :=
  addf (matmul dot_S128x64_S64x512_S128x512_1_0_0_1_n_n none w (shapeCast S64x512 x shapeCasts_S64x512_S64x512) (constant S128x512 .f32 0x00000000#32))
    (broadcastTo S128x512 b broadcasts_S128x1_S128x512)
/-- The cell state of a first step on eight nodes. -/
def cN (g : FVec F S128x512 .f32) : FVec F S32x512 .f32 :=
  mulf (logistic (extractStridedSlice S32x512 ![0, 0] g slices_S128x512_o0_0_S32x512)) (tanh (extractStridedSlice S32x512 ![64, 0] g slices_S128x512_o64_0_S32x512))
/-- The hidden state of a first step on eight nodes. -/
def hN (g : FVec F S128x512 .f32) : FVec F S32x512 .f32 :=
  mulf (logistic (extractStridedSlice S32x512 ![96, 0] g slices_S128x512_o96_0_S32x512)) (tanh (cN g))
/-- The hidden state's part of the second step's gate values, with the bias. -/
def pN (w : Vec F S128x32 .f32) (b : FVec F S128x1 .f32) (h : FVec F S32x512 .f32) : FVec F S128x512 .f32 :=
  addf (matmul dot_S128x32_S32x512_S128x512_1_0_0_1_n_n none w h (constant S128x512 .f32 0x00000000#32)) (broadcastTo S128x512 b broadcasts_S128x1_S128x512)
/-- One node's columns of those gate values, as a stored row. -/
def rowP (o : ℕ) (h : S128x512.Slices ![0, o] S128x64) (P : FVec F S128x512 .f32) : FVec F S1x128x64 .f32 :=
  shapeCast S1x128x64 (extractStridedSlice S128x64 ![0, o] P h) shapeCasts_S128x64_S1x128x64
/-- One node's columns of the cell states, as a stored row. -/
def rowC (o : ℕ) (h : S32x512.Slices ![0, o] S32x64) (C : FVec F S32x512 .f32) : FVec F S1x32x64 .f32 :=
  shapeCast S1x32x64 (extractStridedSlice S32x64 ![0, o] C h) shapeCasts_S32x64_S1x32x64

/-- The columns of a chunk are columns of the features. -/
theorem inb_chunk (q : ℕ) (hq : q < 8) : ∀ a, (![0, 512 * q] : Fin 2 → ℕ) a + S64x512.size a ≤ S64x4096.size a := by
  intro a
  fin_cases a
  · show 0 + 64 ≤ 64
    omega
  · show 512 * q + 512 ≤ 4096
    omega
/-- A node's columns of the gate values of its chunk. -/
theorem slices_rowP (j : ℕ) (hj : j < 8) : S128x512.Slices ![0, 64 * j] S128x64 := by
  interval_cases j <;> decide
/-- A node's columns of the cell states of its chunk. -/
theorem slices_rowC (j : ℕ) (hj : j < 8) : S32x512.Slices ![0, 64 * j] S32x64 := by
  interval_cases j <;> decide
/-- A node's row of the stored gate values. -/
theorem inb_rowP (m : ℕ) (hm : m < 64) : ∀ a, (![m, 0, 0] : Fin 3 → ℕ) a + S1x128x64.size a ≤ S64x128x64.size a := by
  intro a
  fin_cases a
  · show m + 1 ≤ 64
    omega
  · show 0 + 128 ≤ 128
    omega
  · show 0 + 64 ≤ 64
    omega
/-- A node's row of the stored cell states. -/
theorem inb_rowC (m : ℕ) (hm : m < 64) : ∀ a, (![m, 0, 0] : Fin 3 → ℕ) a + S1x32x64.size a ≤ S64x32x64.size a := by
  intro a
  fin_cases a
  · show m + 1 ≤ 64
    omega
  · show 0 + 32 ≤ 32
    omega
  · show 0 + 64 ≤ 64
    omega

/-- The stored row of node `m`: the gate values. -/
def nodeP (w : Vec F S128x64 .f32) (wh : Vec F S128x32 .f32) (b : FVec F S128x1 .f32) (X : Vec F S64x4096 .f32) (m : ℕ) (hm : m < 64) : FVec F S1x128x64 .f32 :=
  rowP (64 * (m % 8)) (slices_rowP (m % 8) (Nat.mod_lt _ (by decide))) (pN wh b (hN (gN w b (chunk X (m / 8) (inb_chunk _ (by omega))))))
/-- The stored row of node `m`: the cell state. -/
def nodeC (w : Vec F S128x64 .f32) (b : FVec F S128x1 .f32) (X : Vec F S64x4096 .f32) (m : ℕ) (hm : m < 64) : FVec F S1x32x64 .f32 :=
  rowC (64 * (m % 8)) (slices_rowC (m % 8) (Nat.mod_lt _ (by decide))) (cN (gN w b (chunk X (m / 8) (inb_chunk _ (by omega)))))

/-- The stores of the gate values, latest first. -/
def piecesP (w : Vec F S128x64 .f32) (wh : Vec F S128x32 .f32) (b : FVec F S128x1 .f32) (X : Vec F S64x4096 .f32) : List (View.Piece (Elt F) S64x128x64 .f32) :=
  List.ofFn fun k : Fin 64 => ⟨Rect.unit (s := S64x128x64) ![63 - k.1, 0, 0] S1x128x64.size (inb_rowP _ (by omega)), nodeP w wh b X (63 - k.1) (by omega)⟩
/-- The stores of the cell states, latest first. -/
def piecesC (w : Vec F S128x64 .f32) (b : FVec F S128x1 .f32) (X : Vec F S64x4096 .f32) : List (View.Piece (Elt F) S64x32x64 .f32) :=
  List.ofFn fun k : Fin 64 => ⟨Rect.unit (s := S64x32x64) ![63 - k.1, 0, 0] S1x32x64.size (inb_rowC _ (by omega)), nodeC w b X (63 - k.1) (by omega)⟩

set_option maxHeartbeats 4000000 in
/-- The loop's trip: one step up the chain, on the two rows it loads. -/
theorem tripUp_eq (c : Dev nD) (arg0 : Memref sig .tc .vmem S64x4096 .f32) (harg0 : arg0.IsWhole) (arg1 : Memref sig .tc .vmem S128x64 .f32) (harg1 : arg1.IsWhole) (arg2 : Memref sig .tc .vmem S128x32 .f32) (harg2 : arg2.IsWhole) (arg3 : Memref sig .tc .vmem S128x1 .f32) (harg3 : arg3.IsWhole) (arg4 : Memref sig .tc .vmem S128x64 .f32) (harg4 : arg4.IsWhole) (arg5 : Memref sig .tc .vmem S128x1 .f32) (harg5 : arg5.IsWhole) (arg6 : Memref sig .tc .vmem S256x64 .f32) (harg6 : arg6.IsWhole) (arg7 : Memref sig .tc .vmem S8x64 .f32) (harg7 : arg7.IsWhole) (arg8 : Memref sig .tc .vmem S8x1 .f32) (harg8 : arg8.IsWhole) (arg9 : Memref sig .tc .vmem S8x64 .f32) (harg9 : arg9.IsWhole) (arg10 : Memref sig .tc .vmem S64x128x64 .f32) (harg10 : arg10.IsWhole) (arg11 : Memref sig .tc .vmem S64x32x64 .f32) (harg11 : arg11.IsWhole)
    (v5 : FVec F S128x1 .f32) (v586 : FVec F S32x512 .f32) (v650 : FVec F S32x64 .f32) (v671 : Vec F S256x64 .f32)
    (XP : BufTy.Contents (Elt F) arg10.view.ty) (XC : BufTy.Contents (Elt F) arg11.view.ty) (k : Fin k1_t1_loop.trips) (f : FVec F S64x64 .f32) :
    tripR_k1_t1 Variants.none c none arg0 harg0 arg1 harg1 arg2 harg2 arg3 harg3 arg4 harg4 arg5 harg5 arg6 harg6 arg7 harg7 arg8 harg8 arg9 harg9 arg10 harg10 arg11 harg11 v5 v586 v650 v671 XP XC k f
      = k1_pay173 v5 v671 f (View.ld (arg10.view.read (Elt F) XP) (Rect.unit (s := S64x128x64) (k1_off1 k) S1x128x64.size (k1_off1_inb k)))
          (View.ld (arg11.view.read (Elt F) XC) (Rect.unit (s := S64x32x64) (k1_off2 k) S1x32x64.size (k1_off2_inb k))) := by
  unfold tripR_k1_t1 trip_k1_t1
  dsimp only
  sl_unfold_words
  simp only [View.readAt_eq_ld]

/-- The running features after `k` trips. -/
def stUp (v5 : FVec F S128x1 .f32) (v671 : Vec F S256x64 .f32) (P : Vec F S64x128x64 .f32) (C : Vec F S64x32x64 .f32) (f : FVec F S64x64 .f32) : ℕ → FVec F S64x64 .f32
  | 0 => f
  | k + 1 => if h : k < k1_t1_loop.trips then
      k1_pay173 v5 v671 (stUp v5 v671 P C f k) (View.ld P (Rect.unit (s := S64x128x64) (k1_off1 ⟨k, h⟩) S1x128x64.size (k1_off1_inb ⟨k, h⟩)))
          (View.ld C (Rect.unit (s := S64x32x64) (k1_off2 ⟨k, h⟩) S1x32x64.size (k1_off2_inb ⟨k, h⟩)))
    else stUp v5 v671 P C f k

/-- The loop's state is that recursion. -/
theorem stUp_eq (c : Dev nD) (arg0 : Memref sig .tc .vmem S64x4096 .f32) (harg0 : arg0.IsWhole) (arg1 : Memref sig .tc .vmem S128x64 .f32) (harg1 : arg1.IsWhole) (arg2 : Memref sig .tc .vmem S128x32 .f32) (harg2 : arg2.IsWhole) (arg3 : Memref sig .tc .vmem S128x1 .f32) (harg3 : arg3.IsWhole) (arg4 : Memref sig .tc .vmem S128x64 .f32) (harg4 : arg4.IsWhole) (arg5 : Memref sig .tc .vmem S128x1 .f32) (harg5 : arg5.IsWhole) (arg6 : Memref sig .tc .vmem S256x64 .f32) (harg6 : arg6.IsWhole) (arg7 : Memref sig .tc .vmem S8x64 .f32) (harg7 : arg7.IsWhole) (arg8 : Memref sig .tc .vmem S8x1 .f32) (harg8 : arg8.IsWhole) (arg9 : Memref sig .tc .vmem S8x64 .f32) (harg9 : arg9.IsWhole) (arg10 : Memref sig .tc .vmem S64x128x64 .f32) (harg10 : arg10.IsWhole) (arg11 : Memref sig .tc .vmem S64x32x64 .f32) (harg11 : arg11.IsWhole)
    (v5 : FVec F S128x1 .f32) (v586 : FVec F S32x512 .f32) (v650 : FVec F S32x64 .f32) (v671 : Vec F S256x64 .f32)
    (XP : BufTy.Contents (Elt F) arg10.view.ty) (XC : BufTy.Contents (Elt F) arg11.view.ty) (f : FVec F S64x64 .f32) : ∀ k : ℕ, k ≤ k1_t1_loop.trips →
    st_k1_t1 Variants.none c none arg0 harg0 arg1 harg1 arg2 harg2 arg3 harg3 arg4 harg4 arg5 harg5 arg6 harg6 arg7 harg7 arg8 harg8 arg9 harg9 arg10 harg10 arg11 harg11 v5 v586 v650 v671 XP XC f k = stUp v5 v671 (arg10.view.read (Elt F) XP) (arg11.view.read (Elt F) XC) f k
  | 0, _ => rfl
  | k + 1, h => by
    rw [st_k1_t1_succ Variants.none c none arg0 harg0 arg1 harg1 arg2 harg2 arg3 harg3 arg4 harg4 arg5 harg5 arg6 harg6 arg7 harg7 arg8 harg8 arg9 harg9 arg10 harg10 arg11 harg11 v5 v586 v650 v671 XP XC f ⟨k, h⟩, tripUp_eq, stUp_eq c arg0 harg0 arg1 harg1 arg2 harg2 arg3 harg3 arg4 harg4 arg5 harg5 arg6 harg6 arg7 harg7 arg8 harg8 arg9 harg9 arg10 harg10 arg11 harg11 v5 v586 v650 v671 XP XC f k (by omega), stUp]
    rw [dif_pos (show k < k1_t1_loop.trips by omega)]

/-- The node arrays as the stores leave them. -/
def arrP (w : Vec F S128x64 .f32) (wh : Vec F S128x32 .f32) (b : FVec F S128x1 .f32) (X : Vec F S64x4096 .f32) : Vec F S64x128x64 .f32 :=
  View.canon (piecesP w wh b X)
/-- The cell-state array as the stores leave it. -/
def arrC (w : Vec F S128x64 .f32) (b : FVec F S128x1 .f32) (X : Vec F S64x4096 .f32) : Vec F S64x32x64 .f32 :=
  View.canon (piecesC w b X)

/-- The whole second region on its inputs. -/
def tree (X : Vec F S64x4096 .f32) (w : Vec F S128x64 .f32) (wh : Vec F S128x32 .f32) (b : FVec F S128x1 .f32) (wb : Vec F S128x64 .f32) (bb : FVec F S128x1 .f32)
    (wc : Vec F S256x64 .f32) (wl : Vec F S8x64 .f32) (bl : Vec F S8x1 .f32) : FVec F S8x64 .f32 :=
  let f0 := k1_pay172 bb (hN (gN w b (chunk X 7 (inb_chunk 7 (by decide)))))
    (View.ld X (Rect.unit (s := S64x4096) ![0, 4032] S64x64.size inb_S64x4096_S64x64_0_4032)) wb
  let f := stUp bb wc (arrP w wh b X) (arrC w b X) f0 63
  k1_pay1 (k1_pay181 f wl bl) (k1_pay182 f wl bl)

section Out
variable (V : (c : Dev nD) → (b : Ref sig .tc) → Buf (Elt F) ((c : Thread nD τ).loc b))

set_option maxHeartbeats 8000000 in
/-- What the region leaves in its block. -/
theorem out1_eq (c : Dev nD) (t : Fin cfg1.N) : outsAt1 V c t
    = tree (iblk1 V c 0 t) (iblk1 V c 1 t) (iblk1 V c 2 t) (k1_pay2 (iblk1 V c 3 t)) (iblk1 V c 4 t) (k1_pay3 (iblk1 V c 5 t)) (iblk1 V c 6 t) (iblk1 V c 7 t) (iblk1 V c 8 t) := by
  unfold outsAt1 out1_A_9
  rw [View.read_writes_eq_canon _ _ _ (fun y => cover1_A_9 c _ _ _ _ _ _ _ _ _ _ _ _ _ _ _ _ _ _ _ _ _ _ _ _ _ _ _ _ _ _ _ _ _ y)]
  unfold kernelRun1_A
  dsimp only
  sl_unfold_words
  have z : (![0, 0] : Fin 2 → ℕ) = fun _ => 0 := by decide
  rw [View.canon_unit_zero z]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread]
  simp only [View.ld_unit_zero (S := S128x32) z, View.ld_unit_zero (S := S128x1) z, View.ld_unit_zero (S := S128x64) z, View.ld_unit_zero (S := S256x64) z,
    View.ld_unit_zero (S := S8x64) z, View.ld_unit_zero (S := S8x1) z]
  rw [show Scf.trips (0#32) (Scalar.addi 0#32 63#32) 1#32 = 63 from by decide +kernel]
  rw [stUp_eq c _ _ _ _ _ _ _ _ _ _ _ _ _ _ _ _ _ _ _ _ _ _ _ _ _ _ _ _ _ _ _ 63 (by decide +kernel)]
  simp only [scM1_0, scM1_1, View.read_writes_junk_eq_canon]
  generalize iblk1 V c 0 t = X0
  generalize iblk1 V c 1 t = X1
  generalize iblk1 V c 2 t = X2
  generalize iblk1 V c 3 t = X3
  generalize iblk1 V c 4 t = X4
  generalize iblk1 V c 5 t = X5
  generalize iblk1 V c 6 t = X6
  generalize iblk1 V c 7 t = X7
  generalize iblk1 V c 8 t = X8
  have e : ∀ LP LC f, LP = piecesP X1 X2 (k1_pay2 X3) X0 → LC = piecesC X1 (k1_pay2 X3) X0 →
      f = k1_pay172 (k1_pay3 X5) (hN (gN X1 (k1_pay2 X3) (chunk X0 7 (inb_chunk 7 (by decide)))))
        (View.ld (X0 : Vec F S64x4096 .f32) (Rect.unit (s := S64x4096) ![0, 4032] S64x64.size inb_S64x4096_S64x64_0_4032)) X4 →
      k1_pay1 (k1_pay181 (stUp (k1_pay3 X5) X6 (View.canon LP) (View.canon LC) f 63) X7 X8) (k1_pay182 (stUp (k1_pay3 X5) X6 (View.canon LP) (View.canon LC) f 63) X7 X8)
        = tree X0 X1 X2 (k1_pay2 X3) X4 (k1_pay3 X5) X6 X7 X8 := by
    rintro _ _ _ rfl rfl rfl
    rfl
  refine e _ _ _ ?_ ?_ rfl
  · rfl
  · rfl

end Out

end Cert.KernelIdeal.Val

end
-- ==== Proof.K1Lane.lean ====
module
public import proofs.«01_k».proof.Proof.K1
public import proofs.«01_k».proof.Proof.Spec
public import Idealize.ShloMosaic.Lib.Pipeline.ValueKit.Tiles

@[expose] public section

/-! The second region read at one lane: the nodes' first steps, the leaf, the climb, and the normalised scores. -/

set_option maxRecDepth 16384

noncomputable section

namespace Cert.KernelIdeal.Val
open Cert.KernelIdeal Cert.KernelIdeal.Gen Cert.Spec
open Idealize.ShloMosaic Idealize.ShloMosaic.TcCoe Idealize.ShloMosaic.Tactic

/-- A first step's gates at the second level lose the hidden term. -/
theorem gates2_zero (wih : Spec.Mat 128 64) (whh : Spec.Mat 128 32) (b : Spec.Vec 128) (f : Spec.Vec 64) (r : Fin 128) :
    gates2 wih whh b f s0.1 r = ∑ j, f j * wih r j + b r := by
  simp [gates2, s0]

/-- A first step's cell state loses the forget term. -/
theorem cellC_zero2 (g : Spec.Vec 128) (k : Fin 32) : cellC g s0.2 k = sg (g ⟨k.1, by omega⟩) * th (g (row 64 (by decide) k)) := by
  simp [cellC, s0]

/-- A column of a chunk is a column of the features. -/
theorem chunk_at (X : Vec Ideal S64x4096 .f32) (q : ℕ) (hq : q < 8) (h : ∀ a, (![0, 512 * q] : Fin 2 → ℕ) a + S64x512.size a ≤ S64x4096.size a)
    (r : Fin 64) (l : Fin 512) : chunk X q h (ix2 r l) = X (ix2 r ⟨512 * q + l.1, by omega⟩) := by
  pointwise [chunk]

/-- A lane of the first step's gate values on eight nodes. -/
theorem gN_at (w : Vec Ideal S128x64 .f32) (b : FVec Ideal S128x1 .f32) (x : Vec Ideal S64x512 .f32) (whh : Spec.Mat 128 32) (r : Fin 128) (l : Fin 512) :
    gN w b x (ix2 r l) = gates2 (fun r j => w (ix2 r j)) whh (fun r => b (ix2 r 0)) (fun j => x (ix2 j l)) s0.1 r := by
  rw [gates2_zero]
  pointwise [gN]
  simp only [mul_comm]

/-- A lane of the first step's cell state on eight nodes. -/
theorem cN_at (g : FVec Ideal S128x512 .f32) (k : Fin 32) (l : Fin 512) : cN g (ix2 k l) = cellC (fun r => g (ix2 r l)) s0.2 k := by
  rw [cellC_zero2]
  pointwise [cN]
  rfl

/-- A lane of the first step's hidden state on eight nodes. -/
theorem hN_at (g : FVec Ideal S128x512 .f32) (k : Fin 32) (l : Fin 512) : hN g (ix2 k l) = cellH (fun r => g (ix2 r l)) (cellC (fun r => g (ix2 r l)) s0.2) k := by
  unfold cellH
  rw [← cN_at]
  unfold hN
  generalize cN g = z
  pointwise
  rfl

/-- A lane of the hidden part of the second step's gate values. -/
theorem pN_at (w : Vec Ideal S128x32 .f32) (b : FVec Ideal S128x1 .f32) (h : FVec Ideal S32x512 .f32) (r : Fin 128) (l : Fin 512) :
    pN w b h (ix2 r l) = ∑ k, h (ix2 k l) * w (ix2 r k) + b (ix2 r 0) := by
  pointwise [pN]
  simp only [mul_comm]

/-- A lane of a stored row of gate values. -/
theorem rowP_at (j : ℕ) (hj : j < 8) (P : FVec Ideal S128x512 .f32) (r : Fin 128) (l : Fin 64) :
    rowP (64 * j) (slices_rowP j hj) P (ix3 0 r l) = P (ix2 r ⟨64 * j + l.1, by omega⟩) := by
  interval_cases j <;> pointwise [rowP]

/-- A lane of a stored row of cell states. -/
theorem rowC_at (j : ℕ) (hj : j < 8) (C : FVec Ideal S32x512 .f32) (k : Fin 32) (l : Fin 64) :
    rowC (64 * j) (slices_rowC j hj) C (ix3 0 k l) = C (ix2 k ⟨64 * j + l.1, by omega⟩) := by
  interval_cases j <;> pointwise [rowC]

/-- The stored gate values, read at a node. -/
theorem arrP_at (w : Vec Ideal S128x64 .f32) (wh : Vec Ideal S128x32 .f32) (b : FVec Ideal S128x1 .f32) (X : Vec Ideal S64x4096 .f32)
    (m : Fin 64) (r : Fin 128) (l : Fin 64) : arrP w wh b X (ix3 m r l) = nodeP w wh b X m.1 m.2 (ix3 0 r l) := by
  unfold arrP piecesP
  refine View.canon_ofFn_unit_eq_of_forall (Val := Elt Ideal) (e := .f32) (S := S64x128x64) (fun k : Fin 64 => ![63 - k.1, 0, 0]) S1x128x64.size _ _ _ _ ⟨⟨63 - m.1, by omega⟩, fun a => ?_⟩ fun k x hx => ?_
  · fin_cases a
    · show 63 - (63 - m.1) ≤ m.1 ∧ m.1 < 63 - (63 - m.1) + 1
      omega
    · exact ⟨Nat.zero_le _, by show r.1 < 0 + 128; omega⟩
    · exact ⟨Nat.zero_le _, by show l.1 < 0 + 64; omega⟩
  · have h0 : m.1 = 63 - k.1 + (x 0).1 := hx 0
    have x0 : (x 0).1 < 1 := (x 0).2
    have e : ∀ (m' : ℕ) (h' : m' < 64), m' = m.1 → ∀ y : S1x128x64.Idx, y = ix3 0 r l → nodeP w wh b X m' h' y = nodeP w wh b X m.1 m.2 (ix3 0 r l) := by
      rintro _ _ rfl _ rfl
      rfl
    refine e _ _ (by omega) x (funext fun a => Fin.ext ?_)
    fin_cases a
    · show (x 0).1 = 0
      omega
    · have h1 : r.1 = 0 + (x 1).1 := hx 1
      show (x 1).1 = r.1
      omega
    · have h2 : l.1 = 0 + (x 2).1 := hx 2
      show (x 2).1 = l.1
      omega

/-- The stored cell states, read at a node. -/
theorem arrC_at (w : Vec Ideal S128x64 .f32) (b : FVec Ideal S128x1 .f32) (X : Vec Ideal S64x4096 .f32)
    (m : Fin 64) (r : Fin 32) (l : Fin 64) : arrC w b X (ix3 m r l) = nodeC w b X m.1 m.2 (ix3 0 r l) := by
  unfold arrC piecesC
  refine View.canon_ofFn_unit_eq_of_forall (Val := Elt Ideal) (e := .f32) (S := S64x32x64) (fun k : Fin 64 => ![63 - k.1, 0, 0]) S1x32x64.size _ _ _ _ ⟨⟨63 - m.1, by omega⟩, fun a => ?_⟩ fun k x hx => ?_
  · fin_cases a
    · show 63 - (63 - m.1) ≤ m.1 ∧ m.1 < 63 - (63 - m.1) + 1
      omega
    · exact ⟨Nat.zero_le _, by show r.1 < 0 + 32; omega⟩
    · exact ⟨Nat.zero_le _, by show l.1 < 0 + 64; omega⟩
  · have h0 : m.1 = 63 - k.1 + (x 0).1 := hx 0
    have x0 : (x 0).1 < 1 := (x 0).2
    have e : ∀ (m' : ℕ) (h' : m' < 64), m' = m.1 → ∀ y : S1x32x64.Idx, y = ix3 0 r l → nodeC w b X m' h' y = nodeC w b X m.1 m.2 (ix3 0 r l) := by
      rintro _ _ rfl _ rfl
      rfl
    refine e _ _ (by omega) x (funext fun a => Fin.ext ?_)
    fin_cases a
    · show (x 0).1 = 0
      omega
    · have h1 : r.1 = 0 + (x 1).1 := hx 1
      show (x 1).1 = r.1
      omega
    · have h2 : l.1 = 0 + (x 2).1 := hx 2
      show (x 2).1 = l.1
      omega

section Nodes
variable (w : Vec Ideal S128x64 .f32) (wh : Vec Ideal S128x32 .f32) (b : FVec Ideal S128x1 .f32) (X : Vec Ideal S64x4096 .f32)

/-- The features of node `m` on lane `l`. -/
def nodeF (l : Fin 64) (m : Fin 64) : Spec.Vec 64 := fun j => X (ix2 j ⟨64 * m.1 + l.1, by omega⟩)

/-- A column of the features is a column of its chunk. -/
theorem chunk_col (l m : Fin 64) : (fun j => chunk X (m.1 / 8) (inb_chunk _ (by omega)) (ix2 j ⟨64 * (m.1 % 8) + l.1, by omega⟩)) = nodeF X l m := by
  funext j
  rw [chunk_at X _ (by omega)]
  unfold nodeF
  exact congrArg X (congrArg (fun v => ix2 j v) (Fin.ext (by show 512 * (m.1 / 8) + (64 * (m.1 % 8) + l.1) = 64 * m.1 + l.1; omega)))

/-- The state of the first step at a node. -/
def first (f : Spec.Vec 64) : Spec.Vec 32 × Spec.Vec 32 :=
  step (gates2 (fun r j => w (ix2 r j)) (fun r k => wh (ix2 r k)) (fun r => b (ix2 r 0)) f) s0

/-- A lane of the gate values on a node's columns. -/
theorem gNode_at (l m : Fin 64) : (fun r => gN w b (chunk X (m.1 / 8) (inb_chunk _ (by omega))) (ix2 r ⟨64 * (m.1 % 8) + l.1, by omega⟩))
    = gates2 (fun r j => w (ix2 r j)) (fun r k => wh (ix2 r k)) (fun r => b (ix2 r 0)) (nodeF X l m) s0.1 := by
  funext r
  rw [gN_at w b _ (fun r k => wh (ix2 r k)), chunk_col]

/-- The stored cell state of a node. -/
theorem nodeC_at (l m : Fin 64) (k : Fin 32) : arrC w b X (ix3 m k l) = (first w wh b (nodeF X l m)).2 k := by
  rw [arrC_at, nodeC, rowC_at _ (Nat.mod_lt _ (by decide)), cN_at, gNode_at w wh b X l m]
  rfl

/-- The stored gate values of a node. -/
theorem nodeP_at (l m : Fin 64) (r : Fin 128) : arrP w wh b X (ix3 m r l) = ∑ k, (first w wh b (nodeF X l m)).1 k * wh (ix2 r k) + b (ix2 r 0) := by
  rw [arrP_at, nodeP, rowP_at _ (Nat.mod_lt _ (by decide)), pN_at]
  refine congrArg (· + b (ix2 r 0)) (Finset.sum_congr rfl fun k _ => congrArg (· * wh (ix2 r k)) ?_)
  rw [hN_at, gNode_at w wh b X l m]
  rfl

end Nodes

end Cert.KernelIdeal.Val

end
-- ==== Proof.K1Tree.lean ====
module
public import proofs.«01_k».proof.Proof.K1Lane

@[expose] public section

/-! The climb up the chain and the two normalised scores, read at one lane. -/

set_option maxRecDepth 16384

noncomputable section

namespace Cert.KernelIdeal.Val
open Cert.KernelIdeal Cert.KernelIdeal.Gen Cert.Spec
open Idealize.ShloMosaic Idealize.ShloMosaic.TcCoe Idealize.ShloMosaic.Tactic

/-- The hidden state of a first step on one node's lanes. -/
def hL (g : FVec Ideal S128x64 .f32) : FVec Ideal S32x64 .f32 :=
  mulf (logistic (extractStridedSlice S32x64 ![96, 0] g slices_S128x64_o96_0_S32x64))
    (tanh (mulf (logistic (extractStridedSlice S32x64 ![0, 0] g slices_S128x64_o0_0_S32x64))
      (tanh (extractStridedSlice S32x64 ![64, 0] g slices_S128x64_o64_0_S32x64))))
/-- The hidden state of a second step on one node's lanes. -/
def hU (g : FVec Ideal S128x64 .f32) (C : FVec Ideal S32x64 .f32) : FVec Ideal S32x64 .f32 :=
  mulf (logistic (extractStridedSlice S32x64 ![96, 0] g slices_S128x64_o96_0_S32x64))
    (tanh (addf (mulf (logistic (extractStridedSlice S32x64 ![32, 0] g slices_S128x64_o32_0_S32x64)) C)
      (mulf (logistic (extractStridedSlice S32x64 ![0, 0] g slices_S128x64_o0_0_S32x64))
        (tanh (extractStridedSlice S32x64 ![64, 0] g slices_S128x64_o64_0_S32x64)))))
/-- The leaf's backward gate values. -/
def gL (wb : Vec Ideal S128x64 .f32) (bb : FVec Ideal S128x1 .f32) (x : Vec Ideal S64x64 .f32) : FVec Ideal S128x64 .f32 :=
  addf (matmul (φ₁ := .f32) (φ₂ := .f32) dot_S128x64_S64x64_S128x64_1_0_0_1_n_n none wb (shapeCast S64x64 x shapeCasts_S64x64_S64x64) (constant S128x64 .f32 0x00000000#32))
    (broadcastTo S128x64 bb broadcasts_S128x1_S128x64)
/-- Both directions' products with the running features. -/
def gW (wc : Vec Ideal S256x64 .f32) (f : FVec Ideal S64x64 .f32) : FVec Ideal S256x64 .f32 :=
  matmul (φ₁ := .f32) (φ₂ := .f32) dot_S256x64_S64x64_S256x64_1_0_0_1_n_n none (shapeCast S256x64 wc shapeCasts_S256x64_S256x64) f (constant S256x64 .f32 0x00000000#32)
/-- The forward gate values of a trip. -/
def gUf (G : FVec Ideal S256x64 .f32) (P : Vec Ideal S1x128x64 .f32) : FVec Ideal S128x64 .f32 :=
  addf (extractStridedSlice S128x64 ![0, 0] G slices_S256x64_o0_0_S128x64) (shapeCast S128x64 P shapeCasts_S1x128x64_S128x64)
/-- The backward gate values of a trip. -/
def gUb (G : FVec Ideal S256x64 .f32) (bb : FVec Ideal S128x1 .f32) : FVec Ideal S128x64 .f32 :=
  addf (extractStridedSlice S128x64 ![128, 0] G slices_S256x64_o128_0_S128x64) (broadcastTo S128x64 bb broadcasts_S128x1_S128x64)

/-- A lane of the first step's hidden state. -/
theorem hL_at (g : FVec Ideal S128x64 .f32) (k : Fin 32) (l : Fin 64) : hL g (ix2 k l) = cellH (fun r => g (ix2 r l)) (cellC (fun r => g (ix2 r l)) s0.2) k := by
  unfold cellH
  rw [cellC_zero2]
  pointwise [hL]
  rfl

/-- A lane of the second step's hidden state. -/
theorem hU_at (g : FVec Ideal S128x64 .f32) (C : FVec Ideal S32x64 .f32) (k : Fin 32) (l : Fin 64) :
    hU g C (ix2 k l) = cellH (fun r => g (ix2 r l)) (cellC (fun r => g (ix2 r l)) (fun k => C (ix2 k l))) k := by
  unfold cellH cellC
  pointwise [hU]
  rfl

/-- A lane of the leaf's backward gate values. -/
theorem gL_at (wb : Vec Ideal S128x64 .f32) (bb : FVec Ideal S128x1 .f32) (x : Vec Ideal S64x64 .f32) (whh : Spec.Mat 128 32) (r : Fin 128) (l : Fin 64) :
    gL wb bb x (ix2 r l) = gates2 (fun r j => wb (ix2 r j)) whh (fun r => bb (ix2 r 0)) (fun j => x (ix2 j l)) s0.1 r := by
  rw [gates2_zero]
  pointwise [gL]
  simp only [mul_comm]

/-- A lane of the products. -/
theorem gW_at (wc : Vec Ideal S256x64 .f32) (f : FVec Ideal S64x64 .f32) (r : Fin 256) (l : Fin 64) : gW wc f (ix2 r l) = ∑ j, f (ix2 j l) * wc (ix2 r j) := by
  pointwise [gW]
  simp only [mul_comm]

/-- A lane of the forward gate values of a trip. -/
theorem gUf_at (G : FVec Ideal S256x64 .f32) (P : Vec Ideal S1x128x64 .f32) (r : Fin 128) (l : Fin 64) :
    gUf G P (ix2 r l) = G (ix2 ⟨r.1, by omega⟩ l) + P (ix3 0 r l) := by
  pointwise [gUf]

/-- A lane of the backward gate values of a trip. -/
theorem gUb_at (G : FVec Ideal S256x64 .f32) (bb : FVec Ideal S128x1 .f32) (r : Fin 128) (l : Fin 64) :
    gUb G bb (ix2 r l) = G (ix2 ⟨128 + r.1, by omega⟩ l) + bb (ix2 r 0) := by
  pointwise [gUb]

/-- A lane of two stacked halves. -/
theorem cat_at (a b : FVec Ideal S32x64 .f32) (j l : Fin 64) :
    concatenate S64x64 0 [⟨S32x64, a⟩, ⟨S32x64, b⟩] concatenates_S32x64_S32x64_S64x64_d0 (ix2 j l) = cat (fun k => a (ix2 k l)) (fun k => b (ix2 k l)) j := by
  unfold cat
  pointwise

/-- The stored gate values, as a trip loads them. -/
theorem ldP_at (P : Vec Ideal S64x128x64 .f32) (k : Fin k1_t1_loop.trips) (hk : k.1 < 63) (r : Fin 128) (l : Fin 64) :
    View.ld P (Rect.unit (s := S64x128x64) (k1_off1 k) S1x128x64.size (k1_off1_inb k)) (ix3 0 r l) = P (ix3 ⟨62 - k.1, by omega⟩ r l) := by
  have e := k1_off1_eq k
  refine congrArg P (funext fun a => Fin.ext ?_)
  fin_cases a
  · show k1_off1 k 0 + 1 * 0 = 62 - k.1
    rw [e]
    rfl
  · show k1_off1 k 1 + 1 * r.1 = r.1
    rw [e]
    show 0 + 1 * r.1 = r.1
    omega
  · show k1_off1 k 2 + 1 * l.1 = l.1
    rw [e]
    show 0 + 1 * l.1 = l.1
    omega
/-- The stored cell states, as a trip loads them. -/
theorem ldC_at (C : Vec Ideal S64x32x64 .f32) (k : Fin k1_t1_loop.trips) (hk : k.1 < 63) (r : Fin 32) (l : Fin 64) :
    View.ld C (Rect.unit (s := S64x32x64) (k1_off2 k) S1x32x64.size (k1_off2_inb k)) (ix3 0 r l) = C (ix3 ⟨62 - k.1, by omega⟩ r l) := by
  have e := k1_off2_eq k
  refine congrArg C (funext fun a => Fin.ext ?_)
  fin_cases a
  · show k1_off2 k 0 + 1 * 0 = 62 - k.1
    rw [e]
    rfl
  · show k1_off2 k 1 + 1 * r.1 = r.1
    rw [e]
    show 0 + 1 * r.1 = r.1
    omega
  · show k1_off2 k 2 + 1 * l.1 = l.1
    rw [e]
    show 0 + 1 * l.1 = l.1
    omega

section Climb
variable (W : Weights) (X : Vec Ideal S64x4096 .f32) (w : Vec Ideal S128x64 .f32) (wh : Vec Ideal S128x32 .f32) (b : FVec Ideal S128x1 .f32)
  (wb : Vec Ideal S128x64 .f32) (bb : FVec Ideal S128x1 .f32) (wc : Vec Ideal S256x64 .f32) (wl : Vec Ideal S8x64 .f32) (bl : Vec Ideal S8x1 .f32)

/-- The arrays hold the second level's weights. -/
structure Holds : Prop where
  /-- forward input weights -/
  hw : ∀ r j, w (ix2 r j) = W.wihf2 r j
  /-- forward hidden weights -/
  hwh : ∀ r k, wh (ix2 r k) = W.whhf2 r k
  /-- forward bias -/
  hb : ∀ r, b (ix2 r 0) = W.bf2 r
  /-- backward input weights -/
  hwb : ∀ r j, wb (ix2 r j) = W.wihb2 r j
  /-- backward bias -/
  hbb : ∀ r, bb (ix2 r 0) = W.bb2 r
  /-- the stack's forward half -/
  hcf : ∀ (r : Fin 128) j, wc (ix2 ⟨r.1, by omega⟩ j) = W.wihf2 r j
  /-- the stack's backward half -/
  hcb : ∀ (r : Fin 128) j, wc (ix2 ⟨128 + r.1, by omega⟩ j) = W.wihb2 r j
  /-- the linear layer's weights -/
  hl : ∀ (q : Fin 2) j, wl (ix2 ⟨q.1, by omega⟩ j) = W.wl q j
  /-- the linear layer's bias -/
  hbl : ∀ q : Fin 2, bl (ix2 ⟨q.1, by omega⟩ 0) = W.bl q

variable {W X w wh b wb bb wc wl bl} (H : Holds W w wh b wb bb wc wl bl)
include H

/-- The state of the first step at a node, by the weights. -/
theorem first_eq (f : Spec.Vec 64) : first w wh b f = step (gates2 W.wihf2 W.whhf2 W.bf2 f) s0 := by
  unfold first
  rw [show (fun r j => w (ix2 r j)) = W.wihf2 from funext fun r => funext fun j => H.hw r j,
    show (fun r k => wh (ix2 r k)) = W.whhf2 from funext fun r => funext fun k => H.hwh r k, show (fun r => b (ix2 r 0)) = W.bf2 from funext H.hb]

/-- The leaf's features on one lane. -/
theorem leaf_at (j l : Fin 64) :
    k1_pay172 bb (hN (gN w b (chunk X 7 (inb_chunk 7 (by decide))))) (View.ld X (Rect.unit (s := S64x4096) ![0, 4032] S64x64.size inb_S64x4096_S64x64_0_4032)) wb (ix2 j l)
      = leaf W (nodeF X l 63) j := by
  have e : k1_pay172 bb (hN (gN w b (chunk X 7 (inb_chunk 7 (by decide))))) (View.ld X (Rect.unit (s := S64x4096) ![0, 4032] S64x64.size inb_S64x4096_S64x64_0_4032)) wb
      = concatenate S64x64 0 [⟨S32x64, extractStridedSlice S32x64 ![0, 448] (hN (gN w b (chunk X 7 (inb_chunk 7 (by decide))))) slices_S32x512_o0_448_S32x64⟩,
        ⟨S32x64, hL (gL wb bb (View.ld X (Rect.unit (s := S64x4096) ![0, 4032] S64x64.size inb_S64x4096_S64x64_0_4032)))⟩] concatenates_S32x64_S32x64_S64x64_d0 := rfl
  have e1 : (fun k => extractStridedSlice S32x64 ![0, 448] (hN (gN w b (chunk X 7 (inb_chunk 7 (by decide))))) slices_S32x512_o0_448_S32x64 (ix2 k l))
      = (step (gates2 W.wihf2 W.whhf2 W.bf2 (nodeF X l 63)) s0).1 := by
    funext k
    rw [← first_eq H]
    have s : extractStridedSlice S32x64 ![0, 448] (hN (gN w b (chunk X 7 (inb_chunk 7 (by decide))))) slices_S32x512_o0_448_S32x64 (ix2 k l)
        = hN (gN w b (chunk X 7 (inb_chunk 7 (by decide)))) (ix2 k ⟨448 + l.1, by omega⟩) := by
      generalize hN (gN w b (chunk X 7 (inb_chunk 7 (by decide)))) = z
      pointwise
    rw [s, hN_at]
    have g := gNode_at w wh b X l 63
    exact congrArg (fun g : Spec.Vec 128 => cellH g (cellC g s0.2) k) g
  have e2 : (fun k => hL (gL wb bb (View.ld X (Rect.unit (s := S64x4096) ![0, 4032] S64x64.size inb_S64x4096_S64x64_0_4032))) (ix2 k l))
      = (step (gates2 W.wihb2 W.whhb2 W.bb2 (nodeF X l 63)) s0).1 := by
    funext k
    have x : (fun j => (View.ld X (Rect.unit (s := S64x4096) ![0, 4032] S64x64.size inb_S64x4096_S64x64_0_4032) : Vec Ideal S64x64 .f32) (ix2 j l)) = nodeF X l 63 := by
      funext j
      unfold nodeF
      pointwise
    rw [hL_at, funext fun r => gL_at wb bb _ W.whhb2 r l, x, show (fun r j => wb (ix2 r j)) = W.wihb2 from funext fun r => funext fun j => H.hwb r j,
      show (fun r => bb (ix2 r 0)) = W.bb2 from funext H.hbb]
    rfl
  rw [e, cat_at, e1, e2]
  rfl

/-- One trip on one lane: a step up the chain. -/
theorem up_at (f : FVec Ideal S64x64 .f32) (P : Vec Ideal S1x128x64 .f32) (C : Vec Ideal S1x32x64 .f32) (n : Spec.Vec 64) (l : Fin 64)
    (hP : ∀ r, P (ix3 0 r l) = ∑ k, (first w wh b n).1 k * wh (ix2 r k) + b (ix2 r 0)) (hC : ∀ k, C (ix3 0 k l) = (first w wh b n).2 k) (j : Fin 64) :
    k1_pay173 bb wc f P C (ix2 j l) = up W n (fun j => f (ix2 j l)) j := by
  have e : k1_pay173 bb wc f P C = concatenate S64x64 0 [⟨S32x64, hU (gUf (gW wc f) P) (shapeCast S32x64 C shapeCasts_S1x32x64_S32x64)⟩,
      ⟨S32x64, hL (gUb (gW wc f) bb)⟩] concatenates_S32x64_S32x64_S64x64_d0 := rfl
  have gf : (fun r => gUf (gW wc f) P (ix2 r l)) = gates2 W.wihf2 W.whhf2 W.bf2 (fun j => f (ix2 j l)) (step (gates2 W.wihf2 W.whhf2 W.bf2 n) s0).1 := by
    funext r
    rw [gUf_at, gW_at, hP, first_eq H]
    simp only [H.hcf, H.hwh, H.hb]
    unfold gates2
    rw [← add_assoc]
  have gb : (fun r => gUb (gW wc f) bb (ix2 r l)) = gates2 W.wihb2 W.whhb2 W.bb2 (fun j => f (ix2 j l)) s0.1 := by
    funext r
    rw [gUb_at, gW_at, gates2_zero]
    simp only [H.hcb, H.hbb]
  have hc : (fun k => shapeCast S32x64 C shapeCasts_S1x32x64_S32x64 (ix2 k l)) = (step (gates2 W.wihf2 W.whhf2 W.bf2 n) s0).2 := by
    funext k
    rw [← first_eq H, ← hC]
    pointwise
  rw [e, cat_at]
  simp only [hU_at, hL_at]
  rw [gf, gb, hc]
  rfl

/-- The running features on one lane. -/
theorem stUp_at (f : FVec Ideal S64x64 .f32) (l : Fin 64) (f₀ : Spec.Vec 64) (hf : ∀ j, f (ix2 j l) = f₀ j) : ∀ k, k ≤ 63 → ∀ j,
    stUp bb wc (arrP w wh b X) (arrC w b X) f k (ix2 j l) = climb W (fun k => nodeF X l ⟨62 - k, by omega⟩) f₀ k j
  | 0, _, j => hf j
  | k + 1, hk, j => by
    have ht : k1_t1_loop.trips = 63 := by decide +kernel
    have hk' : k < k1_t1_loop.trips := by omega
    rw [stUp, dif_pos hk', up_at H _ _ _ (nodeF X l ⟨62 - k, by omega⟩) l, show (fun j => stUp bb wc (arrP w wh b X) (arrC w b X) f k (ix2 j l)) = _ from
      funext fun j => stUp_at f l f₀ hf k (by omega) j]
    · rfl
    · intro r
      rw [← nodeP_at]
      exact ldP_at _ ⟨k, hk'⟩ (by omega) r l
    · intro r
      rw [← nodeC_at w wh b X l]
      exact ldC_at _ ⟨k, hk'⟩ (by omega) r l

/-- The running features after the last trip, on one lane. -/
def topF (W : Weights) (X : Vec Ideal S64x4096 .f32) (l : Fin 64) : Spec.Vec 64 :=
  climb W (fun k => nodeF X l ⟨62 - k, by omega⟩) (leaf W (nodeF X l 63)) 63

/-- A score on one lane. -/
theorem score_at (f : FVec Ideal S64x64 .f32) (q : Fin 2) (l : Fin 64) : k1_pay174 f wl bl (ix2 ⟨q.1, by omega⟩ l) = score W (fun j => f (ix2 j l)) q := by
  unfold score
  simp only [← H.hl, ← H.hbl]
  pointwise [k1_pay174]
  simp only [mul_comm]

/-- The first score's row. -/
theorem row0_at (f : FVec Ideal S64x64 .f32) (l : Fin 64) : k1_pay175 f wl bl (ix2 0 l) = score W (fun j => f (ix2 j l)) 0 := by
  rw [← score_at H]
  unfold k1_pay175
  generalize k1_pay174 f wl bl = z
  pointwise
/-- The second score's row. -/
theorem row1_at (f : FVec Ideal S64x64 .f32) (l : Fin 64) : k1_pay176 f wl bl (ix2 0 l) = score W (fun j => f (ix2 j l)) 1 := by
  rw [← score_at H]
  unfold k1_pay176
  generalize k1_pay174 f wl bl = z
  pointwise

/-- The first quotient. -/
theorem quot0_at (f : FVec Ideal S64x64 .f32) (l : Fin 64) : k1_pay181 f wl bl (ix2 0 l) = soft (score W (fun j => f (ix2 j l))) 0 := by
  unfold soft
  rw [← row0_at H, ← row1_at H]
  unfold k1_pay181 k1_pay180 k1_pay179 k1_pay178 k1_pay177
  generalize k1_pay175 f wl bl = u
  generalize k1_pay176 f wl bl = v
  rfl
/-- The second quotient. -/
theorem quot1_at (f : FVec Ideal S64x64 .f32) (l : Fin 64) : k1_pay182 f wl bl (ix2 0 l) = soft (score W (fun j => f (ix2 j l))) 1 := by
  unfold soft
  rw [← row0_at H, ← row1_at H]
  unfold k1_pay182 k1_pay180 k1_pay179 k1_pay178 k1_pay177
  generalize k1_pay175 f wl bl = u
  generalize k1_pay176 f wl bl = v
  rfl

/-- The second region's result on one lane. -/
theorem tree_at (q : Fin 2) (l : Fin 64) : tree X w wh b wb bb wc wl bl (ix2 ⟨q.1, by omega⟩ l) = soft (score W (topF W X l)) q := by
  unfold tree
  dsimp only
  have hf := stUp_at (X := X) H _ l _ (fun j => leaf_at (X := X) H j l) 63 le_rfl
  generalize stUp bb wc (arrP w wh b X) (arrC w b X) (k1_pay172 bb (hN (gN w b (chunk X 7 (inb_chunk 7 (by decide)))))
    (View.ld X (Rect.unit (s := S64x4096) ![0, 4032] S64x64.size inb_S64x4096_S64x64_0_4032)) wb) 63 = f at hf ⊢
  rw [show topF W X l = fun j => f (ix2 j l) from funext fun j => (hf j).symm]
  have q0 := quot0_at H f l
  have q1 := quot1_at H f l
  generalize k1_pay181 f wl bl = u at q0 ⊢
  generalize k1_pay182 f wl bl = v at q1 ⊢
  match q with
  | 0 =>
    rw [← q0]
    pointwise [k1_pay1]
  | 1 =>
    rw [← q1]
    pointwise [k1_pay1]

end Climb

end Cert.KernelIdeal.Val

end
-- ==== Proof.KArr.lean ====
module
public import proofs.«01_k».proof.Proof.K0Lane
public import proofs.«01_k».proof.Proof.K1Tree
public import Idealize.ShloMosaic.Lib.Pipeline.ValueKit

@[expose] public section

/-! The two regions' arrays: the blocks they read are the arrays they are given, and the arrays they leave are the features and the scores. -/

set_option maxRecDepth 16384

noncomputable section

namespace Cert.KernelIdeal.Val
open Cert.KernelIdeal Cert.KernelIdeal.Gen Cert.Spec
open Idealize.ShloMosaic Idealize.ShloMosaic.TcCoe Idealize.ShloMosaic.Tactic

section Reg
variable (V : (c : Dev nD) → (b : Ref sig .tc) → Buf (Elt Ideal) ((c : Thread nD τ).loc b)) (c : Dev nD)

/-- The first region has two points. -/
theorem lt_two (t : Fin cfg0.N) : t.1 < 2 := (by decide +kernel : ∀ t : Fin cfg0.N, t.1 < 2) t

/-- The first region's block of inputs: 2048 lanes of the array. -/
theorem ib0_0 (t : Fin cfg0.N) (r : Fin 256) (n : Fin 2048) :
    (iblk0 V c 0 t : Vec Ideal S256x2048 .f32) (ix2 r n)
      = (V c main_v2 : Vec Ideal S256x4096 .f32) (ix2 r ⟨2048 * t.1 + n.1, by have := lt_two t; omega⟩) := by
  have e : ∀ t : Fin cfg0.N, win0_0.index t = ![0, t.val] := (by decide +kernel : ∀ t : Fin grid0.N, _)
  blk_simp [iblk0]
  refine congrArg _ ?_
  blk_ext [e]

/-- The first region reads the forward hidden weights whole. -/
theorem ib0_1 (t : Fin cfg0.N) : (iblk0 V c 1 t : Vec Ideal S128x32 .f32) = (V c main_arg2 : Vec Ideal S128x32 .f32) := by
  have e : ∀ t : Fin cfg0.N, win0_1.index t = ![0, 0] := (by decide +kernel : ∀ t : Fin grid0.N, _)
  funext y
  blk_simp [iblk0]
  refine congrArg _ ?_
  blk_ext [e]
/-- The first region reads the forward input weights whole. -/
theorem ib0_2 (t : Fin cfg0.N) : (iblk0 V c 2 t : Vec Ideal S128x1 .f32) = (V c main_arg1 : Vec Ideal S128x1 .f32) := by
  have e : ∀ t : Fin cfg0.N, win0_2.index t = ![0, 0] := (by decide +kernel : ∀ t : Fin grid0.N, _)
  funext y
  blk_simp [iblk0]
  refine congrArg _ ?_
  blk_ext [e]
/-- The first region reads the forward bias whole. -/
theorem ib0_3 (t : Fin cfg0.N) : (iblk0 V c 3 t : Vec Ideal S128x1 .f32) = (V c main_v4 : Vec Ideal S128x1 .f32) := by
  have e : ∀ t : Fin cfg0.N, win0_3.index t = ![0, 0] := (by decide +kernel : ∀ t : Fin grid0.N, _)
  funext y
  blk_simp [iblk0]
  refine congrArg _ ?_
  blk_ext [e]
/-- The first region reads the backward input weights whole. -/
theorem ib0_4 (t : Fin cfg0.N) : (iblk0 V c 4 t : Vec Ideal S128x1 .f32) = (V c main_arg5 : Vec Ideal S128x1 .f32) := by
  have e : ∀ t : Fin cfg0.N, win0_4.index t = ![0, 0] := (by decide +kernel : ∀ t : Fin grid0.N, _)
  funext y
  blk_simp [iblk0]
  refine congrArg _ ?_
  blk_ext [e]
/-- The first region reads the backward bias whole. -/
theorem ib0_5 (t : Fin cfg0.N) : (iblk0 V c 5 t : Vec Ideal S128x1 .f32) = (V c main_v6 : Vec Ideal S128x1 .f32) := by
  have e : ∀ t : Fin cfg0.N, win0_5.index t = ![0, 0] := (by decide +kernel : ∀ t : Fin grid0.N, _)
  funext y
  blk_simp [iblk0]
  refine congrArg _ ?_
  blk_ext [e]
/-- The second region reads the features whole. -/
theorem ib1_0 (t : Fin cfg1.N) : (iblk1 V c 0 t : Vec Ideal S64x4096 .f32) = (V c main_v20 : Vec Ideal S64x4096 .f32) := by
  have e : ∀ t : Fin cfg1.N, win1_0.index t = ![0, 0] := (by decide +kernel : ∀ t : Fin grid1.N, _)
  funext y
  blk_simp [iblk1]
  refine congrArg _ ?_
  blk_ext [e]
/-- The second region reads the forward input weights whole. -/
theorem ib1_1 (t : Fin cfg1.N) : (iblk1 V c 1 t : Vec Ideal S128x64 .f32) = (V c main_arg9 : Vec Ideal S128x64 .f32) := by
  have e : ∀ t : Fin cfg1.N, win1_1.index t = ![0, 0] := (by decide +kernel : ∀ t : Fin grid1.N, _)
  funext y
  blk_simp [iblk1]
  refine congrArg _ ?_
  blk_ext [e]
/-- The second region reads the forward hidden weights whole. -/
theorem ib1_2 (t : Fin cfg1.N) : (iblk1 V c 2 t : Vec Ideal S128x32 .f32) = (V c main_arg10 : Vec Ideal S128x32 .f32) := by
  have e : ∀ t : Fin cfg1.N, win1_2.index t = ![0, 0] := (by decide +kernel : ∀ t : Fin grid1.N, _)
  funext y
  blk_simp [iblk1]
  refine congrArg _ ?_
  blk_ext [e]
/-- The second region reads the forward bias whole. -/
theorem ib1_3 (t : Fin cfg1.N) : (iblk1 V c 3 t : Vec Ideal S128x1 .f32) = (V c main_v8 : Vec Ideal S128x1 .f32) := by
  have e : ∀ t : Fin cfg1.N, win1_3.index t = ![0, 0] := (by decide +kernel : ∀ t : Fin grid1.N, _)
  funext y
  blk_simp [iblk1]
  refine congrArg _ ?_
  blk_ext [e]
/-- The second region reads the backward input weights whole. -/
theorem ib1_4 (t : Fin cfg1.N) : (iblk1 V c 4 t : Vec Ideal S128x64 .f32) = (V c main_arg13 : Vec Ideal S128x64 .f32) := by
  have e : ∀ t : Fin cfg1.N, win1_4.index t = ![0, 0] := (by decide +kernel : ∀ t : Fin grid1.N, _)
  funext y
  blk_simp [iblk1]
  refine congrArg _ ?_
  blk_ext [e]
/-- The second region reads the backward bias whole. -/
theorem ib1_5 (t : Fin cfg1.N) : (iblk1 V c 5 t : Vec Ideal S128x1 .f32) = (V c main_v10 : Vec Ideal S128x1 .f32) := by
  have e : ∀ t : Fin cfg1.N, win1_5.index t = ![0, 0] := (by decide +kernel : ∀ t : Fin grid1.N, _)
  funext y
  blk_simp [iblk1]
  refine congrArg _ ?_
  blk_ext [e]
/-- The second region reads the stacked weights whole. -/
theorem ib1_6 (t : Fin cfg1.N) : (iblk1 V c 6 t : Vec Ideal S256x64 .f32) = (V c main_v11 : Vec Ideal S256x64 .f32) := by
  have e : ∀ t : Fin cfg1.N, win1_6.index t = ![0, 0] := (by decide +kernel : ∀ t : Fin grid1.N, _)
  funext y
  blk_simp [iblk1]
  refine congrArg _ ?_
  blk_ext [e]
/-- The second region reads the linear layer's weights whole. -/
theorem ib1_7 (t : Fin cfg1.N) : (iblk1 V c 7 t : Vec Ideal S8x64 .f32) = (V c main_v14 : Vec Ideal S8x64 .f32) := by
  have e : ∀ t : Fin cfg1.N, win1_7.index t = ![0, 0] := (by decide +kernel : ∀ t : Fin grid1.N, _)
  funext y
  blk_simp [iblk1]
  refine congrArg _ ?_
  blk_ext [e]
/-- The second region reads the linear layer's bias whole. -/
theorem ib1_8 (t : Fin cfg1.N) : (iblk1 V c 8 t : Vec Ideal S8x1 .f32) = (V c main_v19 : Vec Ideal S8x1 .f32) := by
  have e : ∀ t : Fin cfg1.N, win1_8.index t = ![0, 0] := (by decide +kernel : ∀ t : Fin grid1.N, _)
  funext y
  blk_simp [iblk1]
  refine congrArg _ ?_
  blk_ext [e]

end Reg

end Cert.KernelIdeal.Val

end
-- ==== Proof.KOut.lean ====
module
public import proofs.«01_k».proof.Proof.KArr

@[expose] public section

/-! What the two regions leave: the first one every lane's features, the second one the scores of the tree. -/

set_option maxRecDepth 16384

noncomputable section

namespace Cert.KernelIdeal.Val
open Cert.KernelIdeal Cert.KernelIdeal.Gen Cert.Spec
open Idealize.ShloMosaic Idealize.ShloMosaic.TcCoe Idealize.ShloMosaic.Tactic

section Reg
variable (V : (c : Dev nD) → (b : Ref sig .tc) → Buf (Elt Ideal) ((c : Thread nD τ).loc b)) (c : Dev nD)

/-- The last input row of a block. -/
theorem lastRow_at (X : Vec Ideal S256x2048 .f32) (n : Fin 2048) :
    View.ld X (Rect.unit (s := S256x2048) ![255, 0] ![1, 2048] inb_S256x2048_S1x2048_255_0) (ix2 0 n) = X (ix2 255 n) :=
  congrArg X (funext fun a => Fin.ext (by
    fin_cases a
    · rfl
    · show 0 + 1 * n.1 = n.1
      omega))

/-- One block of the first region's output: the features of its lanes. -/
theorem blk0_at (W : Weights) (y : Fin 4096 → ℕ → EReal)
    (hx : ∀ (r : Fin 256) n, (V c main_v2 : Vec Ideal S256x4096 .f32) (ix2 r n) = y n r.1)
    (h1 : ∀ r, (V c main_arg1 : Vec Ideal S128x1 .f32) (ix2 r 0) = W.wihf r)
    (h2 : ∀ r k, (V c main_arg2 : Vec Ideal S128x32 .f32) (ix2 r k) = W.whhf r k)
    (h3 : ∀ r, (V c main_v4 : Vec Ideal S128x1 .f32) (ix2 r 0) = W.bf r)
    (h4 : ∀ r, (V c main_arg5 : Vec Ideal S128x1 .f32) (ix2 r 0) = W.wihb r)
    (h5 : ∀ r, (V c main_v6 : Vec Ideal S128x1 .f32) (ix2 r 0) = W.bb r)
    (t : Fin cfg0.N) (j : Fin 64) (n : Fin 2048) :
    (outsAt0 V c t : Vec Ideal S64x2048 .f32) (ix2 j n) = feat W (y ⟨2048 * t.1 + n.1, by have := lt_two t; omega⟩) j := by
  rw [out0_eq V c t]
  have e1 : ∀ z : Vec Ideal S128x1 .f32, k0_pay1 z = z := fun z => by
    funext i
    pointwise [k0_pay1]
  rw [e1, ib0_1 V c t, ib0_2 V c t, ib0_3 V c t, ib0_4 V c t, ib0_5 V c t]
  refine (pay5_at _ _ _ _ W.whhb j n).trans ?_
  have hs := stK_at (V c main_arg2) (V c main_arg1) (V c main_v4) (iblk0 V c 0 t) n (y ⟨2048 * t.1 + n.1, by have := lt_two t; omega⟩)
    (fun r => (ib0_0 V c t r n).trans (hx r _)) 32 le_rfl
  have hl := (lastRow_at (iblk0 V c 0 t) n).trans ((ib0_0 V c t 255 n).trans (hx 255 _))
  have a1 : (fun r => (V c main_arg1 : Vec Ideal S128x1 .f32) (ix2 r 0)) = W.wihf := funext h1
  have a2 : (fun r k => (V c main_arg2 : Vec Ideal S128x32 .f32) (ix2 r k)) = W.whhf := funext fun r => funext (h2 r)
  have a3 : (fun r => (V c main_v4 : Vec Ideal S128x1 .f32) (ix2 r 0)) = W.bf := funext h3
  have a4 : (fun r => (V c main_arg5 : Vec Ideal S128x1 .f32) (ix2 r 0)) = W.wihb := funext h4
  have a5 : (fun r => (V c main_v6 : Vec Ideal S128x1 .f32) (ix2 r 0)) = W.bb := funext h5
  rw [a1, a2, a3] at hs
  unfold feat
  have hs1 := congrArg Prod.fst hs
  refine congrFun (congrArg₂ cat hs1 ?_) j
  rw [a4, a5, hl]
  rfl

/-- The features of all lanes, as one array. -/
def featG (W : Weights) (y : Fin 4096 → ℕ → EReal) : Vec Ideal S64x4096 .f32 := fun i => feat W (y ⟨(i 1).1, (i 1).isLt⟩) ⟨(i 0).1, (i 0).isLt⟩

/-- The first region leaves every lane's features. -/
theorem arr0_at (W : Weights) (y : Fin 4096 → ℕ → EReal)
    (hx : ∀ (r : Fin 256) n, (V c main_v2 : Vec Ideal S256x4096 .f32) (ix2 r n) = y n r.1)
    (h1 : ∀ r, (V c main_arg1 : Vec Ideal S128x1 .f32) (ix2 r 0) = W.wihf r)
    (h2 : ∀ r k, (V c main_arg2 : Vec Ideal S128x32 .f32) (ix2 r k) = W.whhf r k)
    (h3 : ∀ r, (V c main_v4 : Vec Ideal S128x1 .f32) (ix2 r 0) = W.bf r)
    (h4 : ∀ r, (V c main_arg5 : Vec Ideal S128x1 .f32) (ix2 r 0) = W.wihb r)
    (h5 : ∀ r, (V c main_v6 : Vec Ideal S128x1 .f32) (ix2 r 0) = W.bb r) :
    ((dat0 V c).arrAt 6 cfg0.N : Vec Ideal S64x4096 .f32) = featG W y := by
  have e : ∀ t : Fin cfg0.N, win0_6.index t = ![0, t.val] := (by decide +kernel : ∀ t : Fin grid0.N, _)
  refine (dat0 V c).arrAt_eq_of_covers 6 (featG W y) (by decide +kernel) fun t hf z => ?_
  blk_simp
  rw [after0_6]
  have hz : ∀ (j : Fin 64) (n : Fin 2048), (outsAt0 V c t : Vec Ideal S64x2048 .f32) (ix2 j n) = featG W y (((cfg0.win 6).blk t).view.emb (ix2 j n)) := fun j n => by
    refine (blk0_at V c W y hx h1 h2 h3 h4 h5 t j n).trans ?_
    unfold featG
    refine congrArg₂ (fun a b => feat W (y a) b) (Fin.ext ?_) (Fin.ext ?_)
    · blk_simp [e]
      show 2048 * t.1 + n.1 = t.1 * 2048 + n.1
      omega
    · blk_simp [e]
  have hy : ∀ x : S64x2048.Idx, (outsAt0 V c t : Vec Ideal S64x2048 .f32) x = featG W y (((cfg0.win 6).blk t).view.emb x) := fun x => by
    have ex : x = ix2 (x 0) (x 1) := funext fun a => by fin_cases a <;> rfl
    rw [ex]
    exact hz _ _
  exact hy z

/-- The second region leaves the tree's scores. -/
theorem arr1_eq : ((dat1 V c).arrAt 9 cfg1.N : Vec Ideal S8x64 .f32)
    = tree (V c main_v20) (V c main_arg9) (V c main_arg10) (V c main_v8) (V c main_arg13) (V c main_v10) (V c main_v11) (V c main_v14) (V c main_v19) := by
  have e : ∀ t : Fin cfg1.N, win1_9.index t = ![0, 0] := (by decide +kernel : ∀ t : Fin grid1.N, _)
  refine (dat1 V c).arrAt_eq_of_covers 9 (tree (V c main_v20) (V c main_arg9) (V c main_arg10) (V c main_v8) (V c main_arg13) (V c main_v10) (V c main_v11) (V c main_v14) (V c main_v19) : Vec Ideal S8x64 .f32) (by decide +kernel) fun t hf z => ?_
  blk_simp
  rw [after1_9, out1_eq V c t]
  have e1 : ∀ z : Vec Ideal S128x1 .f32, k1_pay2 z = z := fun z => by
    funext i
    pointwise [k1_pay2]
  have e2 : ∀ z : Vec Ideal S128x1 .f32, k1_pay3 z = z := fun z => by
    funext i
    pointwise [k1_pay3]
  rw [e1, e2, ib1_0 V c t, ib1_1 V c t, ib1_2 V c t, ib1_3 V c t, ib1_4 V c t, ib1_5 V c t, ib1_6 V c t, ib1_7 V c t, ib1_8 V c t]
  refine congrArg _ ?_
  blk_ext [e]

end Reg
end Cert.KernelIdeal.Val
end
-- ==== Proof.KHost.lean ====
module
public import proofs.«01_k».proof.Proof.Gen.KernelIdeal.Frame
public import Idealize.ShloMosaic.Lib.Pointwise
public import Idealize.ShloMosaic.Lib.StableHlo.RunRead
public import Idealize.ShloMosaic.Lib.Routing.OpsSet

@[expose] public section

/-! What the operations before the first region and after the second one compute: the transposed inputs, the summed biases,
the stacked weights, the padded output layer, and the transposed scores. -/

set_option maxRecDepth 16384

noncomputable section

namespace Cert.KernelIdeal.Val
open Cert.KernelIdeal Cert.KernelIdeal.Gen
open Idealize.ShloMosaic Idealize.ShloMosaic.TcCoe Idealize.ShloMosaic.Tactic Idealize.ShloMosaic.StableHlo

/-- The inputs with the time step leading and one lane per node and batch entry. -/
def hXpre (x : Vec Ideal S64x64x256x1 .f32) : Vec Ideal S256x4096 .f32 :=
  shapeCast S256x4096 (transpose S256x64x64 [2, 1, 0] (shapeCast S64x64x256 x shapeCasts_S64x64x256x1_S64x64x256) transposes_S64x64x256_S256x64x64_2_1_0) shapeCasts_S256x64x64_S256x4096

/-- A bias: two vectors summed, as a column. -/
def hBias (a b : FVec Ideal S128 .f32) : Vec Ideal S128x1 .f32 :=
  shapeCast S128x1 (addf a b : FVec Ideal S128 .f32) shapeCasts_S128_S128x1

/-- The two directions' input weights, one under the other. -/
def hCpre (a b : Vec Ideal S128x64 .f32) : Vec Ideal S256x64 .f32 :=
  concatenate S256x64 0 [⟨S128x64, a⟩, ⟨S128x64, b⟩] concatenates_S128x64_S128x64_S256x64_d0

/-- The output weights padded to eight rows. -/
def hLpre (u : Vec Ideal S2x64 .f32) : Vec Ideal S8x64 .f32 :=
  Host.scatter scatter_S8x64_S1_S2x64_01_n_0_0 (fun _ b => b) (broadcastInDim S8x64 ![] bcast_S_S8x64 (constant (F := Ideal) S_ .f32 0x00000000#32))
    (broadcastInDim S1 ![] bcast_S_S1 (constantI S_ 32 0#32)) u

/-- The output bias padded to eight rows. -/
def hMpre (u : Vec Ideal S2 .f32) : Vec Ideal S8x1 .f32 :=
  Host.scatter scatter_S8x1_S2_S2_0_1_01_0 (fun _ b => b) (broadcastInDim S8x1 ![] bcast_S_S8x1 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) u

/-- The scores with the batch leading. -/
def hOpre (s : Vec Ideal S8x64 .f32) : Vec Ideal S64x2 .f32 :=
  transpose S64x2 [1, 0] (extractStridedSlice S2x64 ![0, 0] s slices_S8x64_S2x64_0_0) transposes_S2x64_S64x2_1_0

/-- A lane of the inputs. -/
theorem hXpre_at (x : Vec Ideal S64x64x256x1 .f32) (t : Fin 256) (n : Fin 4096) :
    hXpre x (ix2 t n) = x (ix4 ⟨n.1 % 64, by omega⟩ ⟨n.1 / 64, by omega⟩ t 0) := by
  pointwise [hXpre]

/-- A row of a bias. -/
theorem hBias_at (a b : FVec Ideal S128 .f32) (r : Fin 128) : hBias a b (ix2 r 0) = (a (ix1 r) + b (ix1 r) : EReal) := by
  pointwise [hBias]

/-- The stack's first half. -/
theorem hCpre_fwd (a b : Vec Ideal S128x64 .f32) (r : Fin 128) (j : Fin 64) : hCpre a b (ix2 ⟨r.1, by omega⟩ j) = a (ix2 r j) := by
  pointwise [hCpre]

/-- The stack's second half. -/
theorem hCpre_bwd (a b : Vec Ideal S128x64 .f32) (r : Fin 128) (j : Fin 64) : hCpre a b (ix2 ⟨128 + r.1, by omega⟩ j) = b (ix2 r j) := by
  pointwise [hCpre]

/-- A score of the result. -/
theorem hOpre_at (s : Vec Ideal S8x64 .f32) (b : Fin 64) (q : Fin 2) : hOpre s (ix2 b q) = s (ix2 ⟨q.1, by omega⟩ b) := by
  pointwise [hOpre]

/-- Where the output weights land: the first two rows. -/
theorem land64 : ∀ (q : Fin 2) (j : Fin 64),
    scatter_S8x64_S1_S2x64_01_n_0_0.resultIdx? (ix2 q j) (fun _ => 0#32) = some (ix2 ⟨q.1, by omega⟩ j) := by
  decide +kernel

/-- Where the output bias lands: the first two rows. -/
theorem land1 : ∀ q : Fin 2,
    scatter_S8x1_S2_S2_0_1_01_0.resultIdx? (ix1 q) (fun _ => 0#32) = some (ix2 ⟨q.1, by omega⟩ 0) := by
  decide +kernel

/-- The padded output weights' first two rows are the output weights. -/
theorem hLpre_at (u : Vec Ideal S2x64 .f32) (q : Fin 2) (j : Fin 64) : hLpre u (ix2 ⟨q.1, by omega⟩ j) = u (ix2 q j) := by
  have e : (broadcastInDim S1 ![] bcast_S_S1 (constantI S_ 32 0#32)) = fun _ => 0#32 := rfl
  unfold hLpre
  rw [e]
  refine Routing.scatter_set_hit _ _ _ _ _ _ (fun k hk => ?_) (ix2 q j) (land64 q j)
  obtain ⟨a, b, rfl⟩ : ∃ a b, k = ix2 a b := ⟨k 0, k 1, eq_ix2 k⟩
  have h := Option.some.inj ((land64 a b).symm.trans hk)
  have h2 : (⟨a.1, by omega⟩ : Fin 8) = ⟨q.1, by omega⟩ := congrFun h 0
  have h0 : a = q := Fin.ext (Fin.mk.inj h2)
  have h1 : b = j := congrFun h 1
  rw [h0, h1]

/-- The padded output bias's first two rows are the output bias. -/
theorem hMpre_at (u : Vec Ideal S2 .f32) (q : Fin 2) : hMpre u (ix2 ⟨q.1, by omega⟩ 0) = u (ix1 q) := by
  have e : (concatenate S2 0 [⟨S1, broadcastInDim S1 ![] bcast_S_S1 (constantI S_ 32 0#32)⟩, ⟨S1, broadcastInDim S1 ![] bcast_S_S1 (constantI S_ 32 0#32)⟩] concatenates_S1_S1_S2_d0)
      = fun _ => 0#32 := by
    funext i
    obtain ⟨a, rfl⟩ : ∃ a, i = ix1 a := ⟨i 0, eq_ix1 i⟩
    revert a
    decide +kernel
  unfold hMpre
  rw [e]
  refine Routing.scatter_set_hit _ _ _ _ _ _ (fun k hk => ?_) (ix1 q) (land1 q)
  obtain ⟨a, rfl⟩ : ∃ a, k = ix1 a := ⟨k 0, eq_ix1 k⟩
  have h := Option.some.inj ((land1 a).symm.trans hk)
  have h2 : (⟨a.1, by omega⟩ : Fin 8) = ⟨q.1, by omega⟩ := congrFun h 0
  have h0 : a = q := Fin.ext (Fin.mk.inj h2)
  rw [h0]

section Stretch
variable (U : Valuation τ sig (Elt Ideal))

set_option maxRecDepth 100000 in
/-- The transposed inputs. -/
theorem host_v2 : after hostOps0 U (Proc.devRef .tc main_v2) = hXpre (U (Proc.devRef .tc main_arg0)) := by
  after_reads_simp
  rfl

set_option maxRecDepth 100000 in
/-- The first level's forward bias. -/
theorem host_v4 : after hostOps0 U (Proc.devRef .tc main_v4) = hBias (U (Proc.devRef .tc main_arg3)) (U (Proc.devRef .tc main_arg4)) := by
  after_reads_simp
  rfl

set_option maxRecDepth 100000 in
/-- The first level's backward bias. -/
theorem host_v6 : after hostOps0 U (Proc.devRef .tc main_v6) = hBias (U (Proc.devRef .tc main_arg7)) (U (Proc.devRef .tc main_arg8)) := by
  after_reads_simp
  rfl

set_option maxRecDepth 100000 in
/-- The second level's forward bias. -/
theorem host_v8 : after hostOps0 U (Proc.devRef .tc main_v8) = hBias (U (Proc.devRef .tc main_arg11)) (U (Proc.devRef .tc main_arg12)) := by
  after_reads_simp
  rfl

set_option maxRecDepth 100000 in
/-- The second level's backward bias. -/
theorem host_v10 : after hostOps0 U (Proc.devRef .tc main_v10) = hBias (U (Proc.devRef .tc main_arg15)) (U (Proc.devRef .tc main_arg16)) := by
  after_reads_simp
  rfl

set_option maxRecDepth 100000 in
/-- The stacked weights. -/
theorem host_v11 : after hostOps0 U (Proc.devRef .tc main_v11) = hCpre (U (Proc.devRef .tc main_arg9)) (U (Proc.devRef .tc main_arg13)) := by
  after_reads_simp
  rfl

set_option maxRecDepth 100000 in
/-- The padded output weights. -/
theorem host_v14 : after hostOps0 U (Proc.devRef .tc main_v14) = hLpre (U (Proc.devRef .tc main_arg17)) := by
  after_reads_simp
  rfl

set_option maxRecDepth 100000 in
/-- The padded output bias. -/
theorem host_v19 : after hostOps0 U (Proc.devRef .tc main_v19) = hMpre (U (Proc.devRef .tc main_arg18)) := by
  after_reads_simp
  rfl

set_option maxRecDepth 100000 in
/-- The result. -/
theorem host_v23 : after hostOps2 U (Proc.devRef .tc main_v23) = hOpre (U (Proc.devRef .tc main_v21)) := by
  after_reads_simp
  rfl

end Stretch
end Cert.KernelIdeal.Val
end
-- ==== Proof.KValue.lean ====
module
public import proofs.«01_k».proof.Proof.KOut
public import proofs.«01_k».proof.Proof.KHost

@[expose] public section

/-! The kernel's result, entry by entry, is the network's. -/

set_option maxRecDepth 16384

noncomputable section

namespace Cert.KernelIdeal.Val
open Cert.KernelIdeal Cert.KernelIdeal.Gen Cert.Spec
open Idealize.ShloMosaic Idealize.ShloMosaic.TcCoe Idealize.ShloMosaic.Tactic

variable (m : (ℓ : Loc nD τ sig) → Buf (Elt Ideal) ℓ) (ρ : Dev nD → PrngReg) (c : Dev nD)

/-- An argument as launched. -/
abbrev arg (b : Ref sig .tc) : Buf (Elt Ideal) ((c : Thread nD τ).loc b) := m ((c : Thread nD τ).loc b)

/-- The sum of two vectors' entries. -/
def sum2 (a b : FVec Ideal S128 .f32) (r : Fin 128) : EReal := a (ix1 r) + b (ix1 r)

/-- The launch arguments hold the network's weights `W` and the input sequences `y`, by batch entry and node. -/
structure Args (W : Weights) (y : Fin 64 → Fin 64 → ℕ → EReal) : Prop where
  /-- the input sequences -/
  x : ∀ b n (t : Fin 256), (arg m c main_arg0 : Vec Ideal S64x64x256x1 .f32) (ix4 b n t 0) = y b n t.1
  /-- first level, forward input weights -/
  a1 : ∀ r, (arg m c main_arg1 : Vec Ideal S128x1 .f32) (ix2 r 0) = W.wihf r
  /-- first level, forward hidden weights -/
  a2 : ∀ r k, (arg m c main_arg2 : Vec Ideal S128x32 .f32) (ix2 r k) = W.whhf r k
  /-- first level, forward bias -/
  a3 : ∀ r, sum2 (arg m c main_arg3) (arg m c main_arg4) r = W.bf r
  /-- first level, backward input weights -/
  a5 : ∀ r, (arg m c main_arg5 : Vec Ideal S128x1 .f32) (ix2 r 0) = W.wihb r
  /-- first level, backward bias -/
  a7 : ∀ r, sum2 (arg m c main_arg7) (arg m c main_arg8) r = W.bb r
  /-- second level, forward input weights -/
  a9 : ∀ r j, (arg m c main_arg9 : Vec Ideal S128x64 .f32) (ix2 r j) = W.wihf2 r j
  /-- second level, forward hidden weights -/
  a10 : ∀ r k, (arg m c main_arg10 : Vec Ideal S128x32 .f32) (ix2 r k) = W.whhf2 r k
  /-- second level, forward bias -/
  a11 : ∀ r, sum2 (arg m c main_arg11) (arg m c main_arg12) r = W.bf2 r
  /-- second level, backward input weights -/
  a13 : ∀ r j, (arg m c main_arg13 : Vec Ideal S128x64 .f32) (ix2 r j) = W.wihb2 r j
  /-- second level, backward bias -/
  a15 : ∀ r, sum2 (arg m c main_arg15) (arg m c main_arg16) r = W.bb2 r
  /-- output weights -/
  a17 : ∀ q j, (arg m c main_arg17 : Vec Ideal S2x64 .f32) (ix2 q j) = W.wl q j
  /-- output bias -/
  a18 : ∀ q, (arg m c main_arg18 : Vec Ideal S2 .f32) (ix1 q) = W.bl q

section Run
variable {W : Weights} {y : Fin 64 → Fin 64 → ℕ → EReal} (A : Args m c W y)

/-- The sequence of a lane: its batch entry is the remainder, its node the quotient. -/
def laneY (y : Fin 64 → Fin 64 → ℕ → EReal) (n : Fin 4096) : ℕ → EReal := y ⟨n.1 % 64, by omega⟩ ⟨n.1 / 64, by omega⟩

include A in
/-- After the first region its output array holds every lane's features. -/
theorem v20_eq : (W2 m ρ c (Proc.devRef .tc main_v20) : Vec Ideal S64x4096 .f32) = featG W (laneY y) := by
  refine (W2_arr m ρ c 6).trans (arr0_at (V1 m ρ) c W (laneY y) (fun r n => ?_) (fun r => ?_) (fun r k => ?_) (fun r => ?_) (fun r => ?_) (fun r => ?_))
  · exact (congrFun (host_v2 (W0 m ρ c)) (ix2 r n)).trans ((hXpre_at _ r n).trans (A.x _ _ r))
  · exact (congrFun (W1_args m ρ c main_arg1 (by decide)) (ix2 r 0)).trans (A.a1 r)
  · exact (congrFun (W1_args m ρ c main_arg2 (by decide)) (ix2 r k)).trans (A.a2 r k)
  · exact (congrFun (host_v4 (W0 m ρ c)) (ix2 r 0)).trans ((hBias_at _ _ r).trans (A.a3 r))
  · exact (congrFun (W1_args m ρ c main_arg5 (by decide)) (ix2 r 0)).trans (A.a5 r)
  · exact (congrFun (host_v6 (W0 m ρ c)) (ix2 r 0)).trans ((hBias_at _ _ r).trans (A.a7 r))

/-- What the first region does not touch is as before it. -/
theorem keep (b : Ref sig .tc) (hb : ∀ w, Pipeline.arrRef spec0 w ≠ b) :
    V2 m ρ c b = StableHlo.after hostOps0 (W0 m ρ c) (Proc.devRef .tc b) := W2_of_ne m ρ c b hb

include A in
/-- At the second region's entry its weight arrays hold the network's. -/
theorem holds2 : Holds W (V2 m ρ c main_arg9) (V2 m ρ c main_arg10) (V2 m ρ c main_v8) (V2 m ρ c main_arg13) (V2 m ρ c main_v10)
    (V2 m ρ c main_v11) (V2 m ρ c main_v14) (V2 m ρ c main_v19) where
  hw r j := (congrFun (W2_args m ρ c main_arg9 (by decide)) (ix2 r j)).trans (A.a9 r j)
  hwh r k := (congrFun (W2_args m ρ c main_arg10 (by decide)) (ix2 r k)).trans (A.a10 r k)
  hb r := (congrFun ((keep m ρ c main_v8 (by decide)).trans (host_v8 (W0 m ρ c))) (ix2 r 0)).trans ((hBias_at _ _ r).trans (A.a11 r))
  hwb r j := (congrFun (W2_args m ρ c main_arg13 (by decide)) (ix2 r j)).trans (A.a13 r j)
  hbb r := (congrFun ((keep m ρ c main_v10 (by decide)).trans (host_v10 (W0 m ρ c))) (ix2 r 0)).trans ((hBias_at _ _ r).trans (A.a15 r))
  hcf r j := (congrFun ((keep m ρ c main_v11 (by decide)).trans (host_v11 (W0 m ρ c))) _).trans ((hCpre_fwd _ _ r j).trans (A.a9 r j))
  hcb r j := (congrFun ((keep m ρ c main_v11 (by decide)).trans (host_v11 (W0 m ρ c))) _).trans ((hCpre_bwd _ _ r j).trans (A.a13 r j))
  hl q j := (congrFun ((keep m ρ c main_v14 (by decide)).trans (host_v14 (W0 m ρ c))) _).trans ((hLpre_at _ q j).trans (A.a17 q j))
  hbl q := (congrFun ((keep m ρ c main_v19 (by decide)).trans (host_v19 (W0 m ρ c))) _).trans ((hMpre_at _ q).trans (A.a18 q))

/-- A node's features on a lane. -/
theorem node_at (l k : Fin 64) : nodeF (featG W (laneY y)) l k = feat W (y l k) := by
  funext j
  show feat W (y ⟨(64 * k.1 + l.1) % 64, _⟩ ⟨(64 * k.1 + l.1) / 64, _⟩) j = _
  have h1 : (64 * k.1 + l.1) % 64 = l.1 := by omega
  have h2 : (64 * k.1 + l.1) / 64 = k.1 := by omega
  simp only [h1, h2]

include A in
/-- The kernel's result is the network's output on each batch entry. -/
theorem result_at (b : Fin 64) (q : Fin 2) : (W4 m ρ c (Proc.devRef .tc main_v23) : Vec Ideal S64x2 .f32) (ix2 b q)
    = net W (fun n => feat W (y b ⟨n % 64, Nat.mod_lt _ (by decide)⟩)) q := by
  refine (congrFun (host_v23 (W3 m ρ c)) (ix2 b q)).trans ((hOpre_at _ b q).trans ?_)
  refine (congrFun ((W3_arr m ρ c 9).trans (arr1_eq (V2 m ρ) c)) _).trans ?_
  refine (tree_at (holds2 m ρ c A) q b).trans ?_
  rw [show (V2 m ρ c main_v20 : Vec Ideal S64x4096 .f32) = featG W (laneY y) from v20_eq m ρ c A]
  unfold topF net
  have e : (fun k => nodeF (featG W (laneY y)) b ⟨62 - k, by omega⟩) = fun k => feat W (y b ⟨(62 - k) % 64, Nat.mod_lt _ (by decide)⟩) := by
    funext k
    rw [node_at]
    exact congrArg (fun n => feat W (y b n)) (Fin.ext (by show 62 - k = (62 - k) % 64; omega))
  rw [e, node_at]
  rfl

end Run
end Cert.KernelIdeal.Val
end
-- ==== Proof.KRun.lean ====
module
public import proofs.«01_k».proof.Proof.Gen.KernelIdeal.Frame

@[expose] public section

/-! The kernel's run with every buffer's final contents: it ends with each one as the last boundary says. -/

set_option maxRecDepth 16384

noncomputable section

namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The kernel terminates, and every unscoped buffer ends at its contents at the last boundary. -/
theorem ends : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- One TensorCore buffer at the end. -/
theorem ends_at (c : Dev nD) (b : Ref sig .tc) (hb : ¬ (Proc.devRef .tc b : DevRef τ sig).isScoped) (mem : (ℓ : Loc nD τ sig) → Buf (Elt F) ℓ)
    (h : ∀ x ∈ Pipeline.ucRefs τ sig, mem ((c : Thread nD τ).1, x) = W4 m ρ c x) :
    mem ((c : Thread nD τ).loc b) = W4 m ρ c (Proc.devRef .tc b) := h _ (mem_uc b hb)

end Cert.KernelIdeal.Val
end
-- ==== Proof.RefOps.lean ====
module
public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

/-! The reference program's operations as lists, one list per stretch, and the program and its loop bodies as
    chains of those lists. -/

set_option maxRecDepth 4000

noncomputable section

namespace Cert.ReferenceIdeal.Two
open Cert.ReferenceIdeal Cert.ReferenceIdeal.Gen
open Idealize.ShloMosaic Idealize.ShloMosaic.TcCoe Idealize.ShloMosaic.StableHlo
open Idealize.SL.Sem

/-- A float array of the given shape. -/
abbrev Ar (F : FTy → Type) (s : Shape) : Type := (⟨s, .f32⟩ : BufTy).Contents (Elt F)

variable {F : FTy → Type} [FloatOps F]

/-- Operations, in order: the bias sums, the input laid out as a sequence, and the first copies. -/
abbrev preA : List (HloOp τ sig (Elt F)) :=
  ( StableHlo.binary main_arg3 main_arg4 main_v0 (addf : Ar F S128 → Ar F S128 → Ar F S128)
  :: StableHlo.binary main_arg7 main_arg8 main_v1 (addf : Ar F S128 → Ar F S128 → Ar F S128)
  :: StableHlo.binary main_arg11 main_arg12 main_v2 (addf : Ar F S128 → Ar F S128 → Ar F S128)
  :: StableHlo.binary main_arg15 main_arg16 main_v3 (addf : Ar F S128 → Ar F S128 → Ar F S128)
  :: StableHlo.reshape main_arg0 main_v4 (rfl : (.f32 : EltTy) = .f32) shapeCasts_S64x64x256x1_S4096x256x1
  :: StableHlo.unary main_v4 main_v5 ((transpose S256x4096x1 [1, 0, 2] · transposes_S4096x256x1_S256x4096x1_1_0_2) : Ar F S4096x256x1 → Ar F S256x4096x1)
  :: StableHlo.nullary main_cst (constant S_ .f32 0x00000000#32)
  :: StableHlo.unary main_cst main_v6 (broadcastInDim S4096x32 ![] bcast_S_S4096x32 : Ar F S_ → Ar F S4096x32)
  :: StableHlo.nullary main_c (constantI S_ 32 0#32)
  :: StableHlo.unary main_v5 main_v7_0 id
  :: StableHlo.unary main_arg1 main_v7_1 id
  :: StableHlo.unary main_arg2 main_v7_2 id
  :: StableHlo.unary main_v0 main_v7_3 id
  :: StableHlo.unary main_c main_v7_4 id
  :: StableHlo.unary main_v6 main_v7_5 id
  :: StableHlo.unary main_v6 main_v7_6 id
  :: [] )
/-- The references those operations write. -/
abbrev preA_W : List (Ref sig .tc) := [main_v0, main_v1, main_v2, main_v3, main_v4, main_v5, main_cst, main_v6, main_c, main_v7_0, main_v7_1, main_v7_2, main_v7_3, main_v7_4, main_v7_5, main_v7_6]
/-- They touch only the TensorCore's references. -/
theorem preA_sub : (preA : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- None of them allocates. -/
theorem preA_fresh : (preA : List (HloOp τ sig (Elt F))).Forall fun op => op.fresh = ∅ := StableHlo.forall_fresh_of_map rfl
/-- Each writes inside the list above. -/
theorem preA_writes : (preA : List (HloOp τ sig (Elt F))).Forall fun op => op.writes ⊆ (preA_W.map (Proc.devRef (τ := τ) .tc)).toFinset := StableHlo.forall_writes_sub_of_map rfl

/-- Operations, in order: the backward first-level step, up to its output gate. -/
abbrev bwdA : List (HloOp τ sig (Elt F)) :=
  ( StableHlo.unary main_v5 main_v8 ((extractStridedSlice S1x4096x1 ![255, 0, 0] · slices_S256x4096x1_S1x4096x1_255_0_0) : Ar F S256x4096x1 → Ar F S1x4096x1)
  :: StableHlo.reshape main_v8 main_v9 (rfl : (.f32 : EltTy) = .f32) shapeCasts_S1x4096x1_S4096x1
  :: StableHlo.unary main_arg5 main_v10 ((transpose S1x128 [1, 0] · transposes_S128x1_S1x128_1_0) : Ar F S128x1 → Ar F S1x128)
  :: StableHlo.binary main_v9 main_v10 main_v11 ((fun l r => Host.dotGeneral dot_S4096x1_S1x128_S4096x128_1_0_0_1_n_n none l r) : Ar F S4096x1 → Ar F S1x128 → Ar F S4096x128)
  :: StableHlo.unary main_arg6 main_v12 ((transpose S32x128 [1, 0] · transposes_S128x32_S32x128_1_0) : Ar F S128x32 → Ar F S32x128)
  :: StableHlo.binary main_v6 main_v12 main_v13 ((fun l r => Host.dotGeneral dot_S4096x32_S32x128_S4096x128_1_0_0_1_n_n none l r) : Ar F S4096x32 → Ar F S32x128 → Ar F S4096x128)
  :: StableHlo.binary main_v11 main_v13 main_v14 (addf : Ar F S4096x128 → Ar F S4096x128 → Ar F S4096x128)
  :: StableHlo.unary main_v1 main_v15 (broadcastInDim S1x128 ![1] bcast_S128_S1x128_1 : Ar F S128 → Ar F S1x128)
  :: StableHlo.unary main_v15 main_v16 (broadcastInDim S4096x128 ![0, 1] bcast_S1x128_S4096x128_0_1 : Ar F S1x128 → Ar F S4096x128)
  :: StableHlo.binary main_v14 main_v16 main_v17 (addf : Ar F S4096x128 → Ar F S4096x128 → Ar F S4096x128)
  :: StableHlo.unary main_v17 main_v18 ((extractStridedSlice S4096x32 ![0, 0] · slices_S4096x128_S4096x32_0_0) : Ar F S4096x128 → Ar F S4096x32)
  :: StableHlo.unary main_v17 main_v19 ((extractStridedSlice S4096x32 ![0, 32] · slices_S4096x128_S4096x32_0_32) : Ar F S4096x128 → Ar F S4096x32)
  :: StableHlo.unary main_v17 main_v20 ((extractStridedSlice S4096x32 ![0, 64] · slices_S4096x128_S4096x32_0_64) : Ar F S4096x128 → Ar F S4096x32)
  :: StableHlo.unary main_v17 main_v21 ((extractStridedSlice S4096x32 ![0, 96] · slices_S4096x128_S4096x32_0_96) : Ar F S4096x128 → Ar F S4096x32)
  :: StableHlo.unary main_v19 main_v22 (Host.negf : Ar F S4096x32 → Ar F S4096x32)
  :: StableHlo.unary main_v22 main_v23 (Host.exp : Ar F S4096x32 → Ar F S4096x32)
  :: StableHlo.nullary main_cst_0 (constant S_ .f32 0x3F800000#32)
  :: StableHlo.unary main_cst_0 main_v24 (broadcastInDim S4096x32 ![] bcast_S_S4096x32 : Ar F S_ → Ar F S4096x32)
  :: StableHlo.binary main_v24 main_v23 main_v25 (addf : Ar F S4096x32 → Ar F S4096x32 → Ar F S4096x32)
  :: StableHlo.nullary main_cst_1 (constant S_ .f32 0x3F800000#32)
  :: StableHlo.unary main_cst_1 main_v26 (broadcastInDim S4096x32 ![] bcast_S_S4096x32 : Ar F S_ → Ar F S4096x32)
  :: StableHlo.binary main_v26 main_v25 main_v27 (Host.divf : Ar F S4096x32 → Ar F S4096x32 → Ar F S4096x32)
  :: StableHlo.binary main_v27 main_v6 main_v28 (mulf : Ar F S4096x32 → Ar F S4096x32 → Ar F S4096x32)
  :: StableHlo.unary main_v18 main_v29 (Host.negf : Ar F S4096x32 → Ar F S4096x32)
  :: StableHlo.unary main_v29 main_v30 (Host.exp : Ar F S4096x32 → Ar F S4096x32)
  :: StableHlo.nullary main_cst_2 (constant S_ .f32 0x3F800000#32)
  :: StableHlo.unary main_cst_2 main_v31 (broadcastInDim S4096x32 ![] bcast_S_S4096x32 : Ar F S_ → Ar F S4096x32)
  :: StableHlo.binary main_v31 main_v30 main_v32 (addf : Ar F S4096x32 → Ar F S4096x32 → Ar F S4096x32)
  :: StableHlo.nullary main_cst_3 (constant S_ .f32 0x3F800000#32)
  :: StableHlo.unary main_cst_3 main_v33 (broadcastInDim S4096x32 ![] bcast_S_S4096x32 : Ar F S_ → Ar F S4096x32)
  :: StableHlo.binary main_v33 main_v32 main_v34 (Host.divf : Ar F S4096x32 → Ar F S4096x32 → Ar F S4096x32)
  :: StableHlo.unary main_v20 main_v35 (Host.tanh : Ar F S4096x32 → Ar F S4096x32)
  :: StableHlo.binary main_v34 main_v35 main_v36 (mulf : Ar F S4096x32 → Ar F S4096x32 → Ar F S4096x32)
  :: StableHlo.binary main_v28 main_v36 main_v37 (addf : Ar F S4096x32 → Ar F S4096x32 → Ar F S4096x32)
  :: StableHlo.unary main_v21 main_v38 (Host.negf : Ar F S4096x32 → Ar F S4096x32)
  :: StableHlo.unary main_v38 main_v39 (Host.exp : Ar F S4096x32 → Ar F S4096x32)
  :: StableHlo.nullary main_cst_4 (constant S_ .f32 0x3F800000#32)
  :: StableHlo.unary main_cst_4 main_v40 (broadcastInDim S4096x32 ![] bcast_S_S4096x32 : Ar F S_ → Ar F S4096x32)
  :: StableHlo.binary main_v40 main_v39 main_v41 (addf : Ar F S4096x32 → Ar F S4096x32 → Ar F S4096x32)
  :: StableHlo.nullary main_cst_5 (constant S_ .f32 0x3F800000#32)
  :: StableHlo.unary main_cst_5 main_v42 (broadcastInDim S4096x32 ![] bcast_S_S4096x32 : Ar F S_ → Ar F S4096x32)
  :: StableHlo.binary main_v42 main_v41 main_v43 (Host.divf : Ar F S4096x32 → Ar F S4096x32 → Ar F S4096x32)
  :: StableHlo.unary main_v37 main_v44 (Host.tanh : Ar F S4096x32 → Ar F S4096x32)
  :: [] )
/-- The references those operations write. -/
abbrev bwdA_W : List (Ref sig .tc) := [main_v8, main_v9, main_v10, main_v11, main_v12, main_v13, main_v14, main_v15, main_v16, main_v17, main_v18, main_v19, main_v20, main_v21, main_v22, main_v23, main_cst_0, main_v24, main_v25, main_cst_1, main_v26, main_v27, main_v28, main_v29, main_v30, main_cst_2, main_v31, main_v32, main_cst_3, main_v33, main_v34, main_v35, main_v36, main_v37, main_v38, main_v39, main_cst_4, main_v40, main_v41, main_cst_5, main_v42, main_v43, main_v44]
/-- They touch only the TensorCore's references. -/
theorem bwdA_sub : (bwdA : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub ..⟩
/-- None of them allocates. -/
theorem bwdA_fresh : (bwdA : List (HloOp τ sig (Elt F))).Forall fun op => op.fresh = ∅ := StableHlo.forall_fresh_of_map rfl
/-- Each writes inside the list above. -/
theorem bwdA_writes : (bwdA : List (HloOp τ sig (Elt F))).Forall fun op => op.writes ⊆ (bwdA_W.map (Proc.devRef (τ := τ) .tc)).toFinset := StableHlo.forall_writes_sub_of_map rfl

/-- Operations, in order: the rest of the backward step and the first-level features. -/
abbrev bwdB : List (HloOp τ sig (Elt F)) :=
  ( StableHlo.binary main_v43 main_v44 main_v45 (mulf : Ar F S4096x32 → Ar F S4096x32 → Ar F S4096x32)
  :: StableHlo.binary main_v7_5 main_v45 main_v46 ((fun a b => concatenate S4096x64 1 [⟨S4096x32, a⟩, ⟨S4096x32, b⟩] concatenates_S4096x32_S4096x32_S4096x64_d1) : Ar F S4096x32 → Ar F S4096x32 → Ar F S4096x64)
  :: StableHlo.reshape main_v46 main_v47 (rfl : (.f32 : EltTy) = .f32) shapeCasts_S4096x64_S64x64x64
  :: StableHlo.nullary main_cst_6 (constant S_ .f32 0x00000000#32)
  :: StableHlo.unary main_cst_6 main_v48 (broadcastInDim S64x32 ![] bcast_S_S64x32 : Ar F S_ → Ar F S64x32)
  :: [] )
/-- The references those operations write. -/
abbrev bwdB_W : List (Ref sig .tc) := [main_v45, main_v46, main_v47, main_cst_6, main_v48]
/-- They touch only the TensorCore's references. -/
theorem bwdB_sub : (bwdB : List (HloOp τ sig (Elt F))).Forall fun op => op.bufs ⊆ StableHlo.tcRefs τ sig :=
  ⟨StableHlo.binary_bufs_sub .., StableHlo.binary_bufs_sub .., StableHlo.reshape_bufs_sub .., StableHlo.nullary_bufs_sub .., StableHlo.unary_bufs_sub ..⟩
/-- None of them allocates. -/
theorem bwdB_fresh : (bwdB : List (HloOp τ sig (Elt F))).Forall fun op => op.fresh = ∅ := StableHlo.forall_fresh_of_map rfl
/-- Each writes inside the list above. -/
theorem bwdB_writes : (bwdB : List (HloOp τ sig (Elt F))).Forall fun op => op.writes ⊆ (bwdB_W.map (Proc.devRef (τ := τ) .tc)).toFinset := StableHlo.forall_writes_sub_of_map rfl

/-- Operations, in order: the leaf step of the forward second-level cell. -/
abbrev leafF : List (HloOp τ sig (Elt F)) :=
  ( StableHlo.unary main_v47 main_v49 ((extractStridedSlice S64x1x64 ![0, 63, 0] · slices_S64x64x64_S64x1x64_0_63_0) : Ar F S64x64x64 → Ar F S64x1x64)
  :: StableHlo.reshape main_v49 main_v50 (rfl : (.f32 : EltTy) = .f32) shapeCasts_S64x1x64_S64x64
  :: StableHlo.unary main_arg9 main_v51 ((transpose S64x128 [1, 0] · transposes_S128x64_S64x128_1_0) : Ar F S128x64 → Ar F S64x128)
  :: StableHlo.binary main_v50 main_v51 main_v52 ((fun l r => Host.dotGeneral dot_S64x64_S64x128_S64x128_1_0_0_1_n_n none l r) : Ar F S64x64 → Ar F S64x128 → Ar F S64x128)
  :: StableHlo.unary main_arg10 main_v53 ((transpose S32x128 [1, 0] · transposes_S128x32_S32x128_1_0) : Ar F S128x32 → Ar F S32x128)
  :: StableHlo.binary main_v48 main_v53 main_v54 ((fun l r => Host.dotGeneral dot_S64x32_S32x128_S64x128_1_0_0_1_n_n none l r) : Ar F S64x32 → Ar F S32x128 → Ar F S64x128)
  :: StableHlo.binary main_v52 main_v54 main_v55 (addf : Ar F S64x128 → Ar F S64x128 → Ar F S64x128)
  :: StableHlo.unary main_v2 main_v56 (broadcastInDim S1x128 ![1] bcast_S128_S1x128_1 : Ar F S128 → Ar F S1x128)
  :: StableHlo.unary main_v56 main_v57 (broadcastInDim S64x128 ![0, 1] bcast_S1x128_S64x128_0_1 : Ar F S1x128 → Ar F S64x128)
  :: StableHlo.binary main_v55 main_v57 main_v58 (addf : Ar F S64x128 → Ar F S64x128 → Ar F S64x128)
  :: StableHlo.unary main_v58 main_v59 ((extractStridedSlice S64x32 ![0, 0] · slices_S64x128_S64x32_0_0) : Ar F S64x128 → Ar F S64x32)
  :: StableHlo.unary main_v58 main_v60 ((extractStridedSlice S64x32 ![0, 32] · slices_S64x128_S64x32_0_32) : Ar F S64x128 → Ar F S64x32)
  :: StableHlo.unary main_v58 main_v61 ((extractStridedSlice S64x32 ![0, 64] · slices_S64x128_S64x32_0_64) : Ar F S64x128 → Ar F S64x32)
  :: StableHlo.unary main_v58 main_v62 ((extractStridedSlice S64x32 ![0, 96] · slices_S64x128_S64x32_0_96) : Ar F S64x128 → Ar F S64x32)
  :: StableHlo.unary main_v60 main_v63 (Host.negf : Ar F S64x32 → Ar F S64x32)
  :: StableHlo.unary main_v63 main_v64 (Host.exp : Ar F S64x32 → Ar F S64x32)
  :: StableHlo.nullary main_cst_7 (constant S_ .f32 0x3F800000#32)
  :: StableHlo.unary main_cst_7 main_v65 (broadcastInDim S64x32 ![] bcast_S_S64x32 : Ar F S_ → Ar F S64x32)
  :: StableHlo.binary main_v65 main_v64 main_v66 (addf : Ar F S64x32 → Ar F S64x32 → Ar F S64x32)
  :: StableHlo.nullary main_cst_8 (constant S_ .f32 0x3F800000#32)
  :: StableHlo.unary main_cst_8 main_v67 (broadcastInDim S64x32 ![] bcast_S_S64x32 : Ar F S_ → Ar F S64x32)
  :: StableHlo.binary main_v67 main_v66 main_v68 (Host.divf : Ar F S64x32 → Ar F S64x32 → Ar F S64x32)
  :: StableHlo.binary main_v68 main_v48 main_v69 (mulf : Ar F S64x32 → Ar F S64x32 → Ar F S64x32)
  :: StableHlo.unary main_v59 main_v70 (Host.negf : Ar F S64x32 → Ar F S64x32)
  :: StableHlo.unary main_v70 main_v71 (Host.exp : Ar F S64x32 → Ar F S64x32)
  :: StableHlo.nullary main_cst_9 (constant S_ .f32 0x3F800000#32)
  :: StableHlo.unary main_cst_9 main_v72 (broadcastInDim S64x32 ![] bcast_S_S64x32 : Ar F S_ → Ar F S64x32)
  :: StableHlo.binary main_v72 main_v71 main_v73 (addf : Ar F S64x32 → Ar F S64x32 → Ar F S64x32)
  :: StableHlo.nullary main_cst_10 (constant S_ .f32 0x3F800000#32)
  :: StableHlo.unary main_cst_10 main_v74 (broadcastInDim S64x32 ![] bcast_S_S64x32 : Ar F S_ → Ar F S64x32)
  :: StableHlo.binary main_v74 main_v73 main_v75 (Host.divf : Ar F S64x32 → Ar F S64x32 → Ar F S64x32)
  :: StableHlo.unary main_v61 main_v76 (Host.tanh : Ar F S64x32 → Ar F S64x32)
  :: StableHlo.binary main_v75 main_v76 main_v77 (mulf : Ar F S64x32 → Ar F S64x32 → Ar F S64x32)
  :: StableHlo.binary main_v69 main_v77 main_v78 (addf : Ar F S64x32 → Ar F S64x32 → Ar F S64x32)
  :: StableHlo.unary main_v62 main_v79 (Host.negf : Ar F S64x32 → Ar F S64x32)
  :: StableHlo.unary main_v79 main_v80 (Host.exp : Ar F S64x32 → Ar F S64x32)
  :: StableHlo.nullary main_cst_11 (constant S_ .f32 0x3F800000#32)
  :: StableHlo.unary main_cst_11 main_v81 (broadcastInDim S64x32 ![] bcast_S_S64x32 : Ar F S_ → Ar F S64x32)
  :: StableHlo.binary main_v81 main_v80 main_v82 (addf : Ar F S64x32 → Ar F S64x32 → Ar F S64x32)
  :: StableHlo.nullary main_cst_12 (constant S_ .f32 0x3F800000#32)
  :: StableHlo.unary main_cst_12 main_v83 (broadcastInDim S64x32 ![] bcast_S_S64x32 : Ar F S_ → Ar F S64x32)
  :: StableHlo.binary main_v83 main_v82 main_v84 (Host.divf : Ar F S64x32 → Ar F S64x32 → Ar F S64x32)
  :: StableHlo.unary main_v78 main_v85 (Host.tanh : Ar F S64x32 → Ar F S64x32)
  :: StableHlo.binary main_v84 main_v85 main_v86 (mulf : Ar F S64x32 → Ar F S64x32 → Ar F S64x32)
  :: [] )
/-- The references those operations write. -/
abbrev leafF_W : List (Ref sig .tc) := [main_v49, main_v50, main_v51, main_v52, main_v53, main_v54, main_v55, main_v56, main_v57, main_v58, main_v59, main_v60, main_v61, main_v62, main_v63, main_v64, main_cst_7, main_v65, main_v66, main_cst_8, main_v67, main_v68, main_v69, main_v70, main_v71, main_cst_9, main_v72, main_v73, main_cst_10, main_v74, main_v75, main_v76, main_v77, main_v78, main_v79, main_v80, main_cst_11, main_v81, main_v82, main_cst_12, main_v83, main_v84, main_v85, main_v86]
/-- They touch only the TensorCore's references. -/
theorem leafF_sub : (leafF : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- None of them allocates. -/
theorem leafF_fresh : (leafF : List (HloOp τ sig (Elt F))).Forall fun op => op.fresh = ∅ := StableHlo.forall_fresh_of_map rfl
/-- Each writes inside the list above. -/
theorem leafF_writes : (leafF : List (HloOp τ sig (Elt F))).Forall fun op => op.writes ⊆ (leafF_W.map (Proc.devRef (τ := τ) .tc)).toFinset := StableHlo.forall_writes_sub_of_map rfl

/-- Operations, in order: the leaf step of the backward second-level cell, up to its first slice. -/
abbrev leafB : List (HloOp τ sig (Elt F)) :=
  ( StableHlo.unary main_v47 main_v87 ((extractStridedSlice S64x1x64 ![0, 63, 0] · slices_S64x64x64_S64x1x64_0_63_0) : Ar F S64x64x64 → Ar F S64x1x64)
  :: StableHlo.reshape main_v87 main_v88 (rfl : (.f32 : EltTy) = .f32) shapeCasts_S64x1x64_S64x64
  :: StableHlo.unary main_arg13 main_v89 ((transpose S64x128 [1, 0] · transposes_S128x64_S64x128_1_0) : Ar F S128x64 → Ar F S64x128)
  :: StableHlo.binary main_v88 main_v89 main_v90 ((fun l r => Host.dotGeneral dot_S64x64_S64x128_S64x128_1_0_0_1_n_n none l r) : Ar F S64x64 → Ar F S64x128 → Ar F S64x128)
  :: StableHlo.unary main_arg14 main_v91 ((transpose S32x128 [1, 0] · transposes_S128x32_S32x128_1_0) : Ar F S128x32 → Ar F S32x128)
  :: StableHlo.binary main_v48 main_v91 main_v92 ((fun l r => Host.dotGeneral dot_S64x32_S32x128_S64x128_1_0_0_1_n_n none l r) : Ar F S64x32 → Ar F S32x128 → Ar F S64x128)
  :: StableHlo.binary main_v90 main_v92 main_v93 (addf : Ar F S64x128 → Ar F S64x128 → Ar F S64x128)
  :: StableHlo.unary main_v3 main_v94 (broadcastInDim S1x128 ![1] bcast_S128_S1x128_1 : Ar F S128 → Ar F S1x128)
  :: StableHlo.unary main_v94 main_v95 (broadcastInDim S64x128 ![0, 1] bcast_S1x128_S64x128_0_1 : Ar F S1x128 → Ar F S64x128)
  :: StableHlo.binary main_v93 main_v95 main_v96 (addf : Ar F S64x128 → Ar F S64x128 → Ar F S64x128)
  :: StableHlo.unary main_v96 main_v97 ((extractStridedSlice S64x32 ![0, 0] · slices_S64x128_S64x32_0_0) : Ar F S64x128 → Ar F S64x32)
  :: [] )
/-- The references those operations write. -/
abbrev leafB_W : List (Ref sig .tc) := [main_v87, main_v88, main_v89, main_v90, main_v91, main_v92, main_v93, main_v94, main_v95, main_v96, main_v97]
/-- They touch only the TensorCore's references. -/
theorem leafB_sub : (leafB : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub ..⟩
/-- None of them allocates. -/
theorem leafB_fresh : (leafB : List (HloOp τ sig (Elt F))).Forall fun op => op.fresh = ∅ := StableHlo.forall_fresh_of_map rfl
/-- Each writes inside the list above. -/
theorem leafB_writes : (leafB : List (HloOp τ sig (Elt F))).Forall fun op => op.writes ⊆ (leafB_W.map (Proc.devRef (τ := τ) .tc)).toFinset := StableHlo.forall_writes_sub_of_map rfl

/-- Operations, in order: the rest of that leaf step and the leaf features. -/
abbrev leafC : List (HloOp τ sig (Elt F)) :=
  ( StableHlo.unary main_v96 main_v98 ((extractStridedSlice S64x32 ![0, 32] · slices_S64x128_S64x32_0_32) : Ar F S64x128 → Ar F S64x32)
  :: StableHlo.unary main_v96 main_v99 ((extractStridedSlice S64x32 ![0, 64] · slices_S64x128_S64x32_0_64) : Ar F S64x128 → Ar F S64x32)
  :: StableHlo.unary main_v96 main_v100 ((extractStridedSlice S64x32 ![0, 96] · slices_S64x128_S64x32_0_96) : Ar F S64x128 → Ar F S64x32)
  :: StableHlo.unary main_v98 main_v101 (Host.negf : Ar F S64x32 → Ar F S64x32)
  :: StableHlo.unary main_v101 main_v102 (Host.exp : Ar F S64x32 → Ar F S64x32)
  :: StableHlo.nullary main_cst_13 (constant S_ .f32 0x3F800000#32)
  :: StableHlo.unary main_cst_13 main_v103 (broadcastInDim S64x32 ![] bcast_S_S64x32 : Ar F S_ → Ar F S64x32)
  :: StableHlo.binary main_v103 main_v102 main_v104 (addf : Ar F S64x32 → Ar F S64x32 → Ar F S64x32)
  :: StableHlo.nullary main_cst_14 (constant S_ .f32 0x3F800000#32)
  :: StableHlo.unary main_cst_14 main_v105 (broadcastInDim S64x32 ![] bcast_S_S64x32 : Ar F S_ → Ar F S64x32)
  :: StableHlo.binary main_v105 main_v104 main_v106 (Host.divf : Ar F S64x32 → Ar F S64x32 → Ar F S64x32)
  :: StableHlo.binary main_v106 main_v48 main_v107 (mulf : Ar F S64x32 → Ar F S64x32 → Ar F S64x32)
  :: StableHlo.unary main_v97 main_v108 (Host.negf : Ar F S64x32 → Ar F S64x32)
  :: StableHlo.unary main_v108 main_v109 (Host.exp : Ar F S64x32 → Ar F S64x32)
  :: StableHlo.nullary main_cst_15 (constant S_ .f32 0x3F800000#32)
  :: StableHlo.unary main_cst_15 main_v110 (broadcastInDim S64x32 ![] bcast_S_S64x32 : Ar F S_ → Ar F S64x32)
  :: StableHlo.binary main_v110 main_v109 main_v111 (addf : Ar F S64x32 → Ar F S64x32 → Ar F S64x32)
  :: StableHlo.nullary main_cst_16 (constant S_ .f32 0x3F800000#32)
  :: StableHlo.unary main_cst_16 main_v112 (broadcastInDim S64x32 ![] bcast_S_S64x32 : Ar F S_ → Ar F S64x32)
  :: StableHlo.binary main_v112 main_v111 main_v113 (Host.divf : Ar F S64x32 → Ar F S64x32 → Ar F S64x32)
  :: StableHlo.unary main_v99 main_v114 (Host.tanh : Ar F S64x32 → Ar F S64x32)
  :: StableHlo.binary main_v113 main_v114 main_v115 (mulf : Ar F S64x32 → Ar F S64x32 → Ar F S64x32)
  :: StableHlo.binary main_v107 main_v115 main_v116 (addf : Ar F S64x32 → Ar F S64x32 → Ar F S64x32)
  :: StableHlo.unary main_v100 main_v117 (Host.negf : Ar F S64x32 → Ar F S64x32)
  :: StableHlo.unary main_v117 main_v118 (Host.exp : Ar F S64x32 → Ar F S64x32)
  :: StableHlo.nullary main_cst_17 (constant S_ .f32 0x3F800000#32)
  :: StableHlo.unary main_cst_17 main_v119 (broadcastInDim S64x32 ![] bcast_S_S64x32 : Ar F S_ → Ar F S64x32)
  :: StableHlo.binary main_v119 main_v118 main_v120 (addf : Ar F S64x32 → Ar F S64x32 → Ar F S64x32)
  :: StableHlo.nullary main_cst_18 (constant S_ .f32 0x3F800000#32)
  :: StableHlo.unary main_cst_18 main_v121 (broadcastInDim S64x32 ![] bcast_S_S64x32 : Ar F S_ → Ar F S64x32)
  :: StableHlo.binary main_v121 main_v120 main_v122 (Host.divf : Ar F S64x32 → Ar F S64x32 → Ar F S64x32)
  :: StableHlo.unary main_v116 main_v123 (Host.tanh : Ar F S64x32 → Ar F S64x32)
  :: StableHlo.binary main_v122 main_v123 main_v124 (mulf : Ar F S64x32 → Ar F S64x32 → Ar F S64x32)
  :: StableHlo.binary main_v86 main_v124 main_v125 ((fun a b => concatenate S64x64 1 [⟨S64x32, a⟩, ⟨S64x32, b⟩] concatenates_S64x32_S64x32_S64x64_d1) : Ar F S64x32 → Ar F S64x32 → Ar F S64x64)
  :: [] )
/-- The references those operations write. -/
abbrev leafC_W : List (Ref sig .tc) := [main_v98, main_v99, main_v100, main_v101, main_v102, main_cst_13, main_v103, main_v104, main_cst_14, main_v105, main_v106, main_v107, main_v108, main_v109, main_cst_15, main_v110, main_v111, main_cst_16, main_v112, main_v113, main_v114, main_v115, main_v116, main_v117, main_v118, main_cst_17, main_v119, main_v120, main_cst_18, main_v121, main_v122, main_v123, main_v124, main_v125]
/-- They touch only the TensorCore's references. -/
theorem leafC_sub : (leafC : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub ..⟩
/-- None of them allocates. -/
theorem leafC_fresh : (leafC : List (HloOp τ sig (Elt F))).Forall fun op => op.fresh = ∅ := StableHlo.forall_fresh_of_map rfl
/-- Each writes inside the list above. -/
theorem leafC_writes : (leafC : List (HloOp τ sig (Elt F))).Forall fun op => op.writes ⊆ (leafC_W.map (Proc.devRef (τ := τ) .tc)).toFinset := StableHlo.forall_writes_sub_of_map rfl

/-- Operations, in order: the remaining nodes reversed, and the copies the second loop starts from. -/
abbrev acts : List (HloOp τ sig (Elt F)) :=
  ( StableHlo.unary main_v47 main_v126 ((extractStridedSlice S64x63x64 ![0, 0, 0] · slices_S64x64x64_S64x63x64_0_0_0) : Ar F S64x64x64 → Ar F S64x63x64)
  :: StableHlo.unary main_v126 main_v127 (Host.reverse [1] : Ar F S64x63x64 → Ar F S64x63x64)
  :: StableHlo.unary main_v127 main_v128 ((transpose S63x64x64 [1, 0, 2] · transposes_S64x63x64_S63x64x64_1_0_2) : Ar F S64x63x64 → Ar F S63x64x64)
  :: StableHlo.nullary main_c_19 (constantI S_ 32 0#32)
  :: StableHlo.unary main_v128 main_v129_0 id
  :: StableHlo.unary main_arg9 main_v129_1 id
  :: StableHlo.unary main_arg10 main_v129_2 id
  :: StableHlo.unary main_v48 main_v129_3 id
  :: StableHlo.unary main_v2 main_v129_4 id
  :: StableHlo.unary main_arg13 main_v129_5 id
  :: StableHlo.unary main_arg14 main_v129_6 id
  :: StableHlo.unary main_v3 main_v129_7 id
  :: StableHlo.unary main_c_19 main_v129_8 id
  :: StableHlo.unary main_v125 main_v129_9 id
  :: [] )
/-- The references those operations write. -/
abbrev acts_W : List (Ref sig .tc) := [main_v126, main_v127, main_v128, main_c_19, main_v129_0, main_v129_1, main_v129_2, main_v129_3, main_v129_4, main_v129_5, main_v129_6, main_v129_7, main_v129_8, main_v129_9]
/-- They touch only the TensorCore's references. -/
theorem acts_sub : (acts : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- None of them allocates. -/
theorem acts_fresh : (acts : List (HloOp τ sig (Elt F))).Forall fun op => op.fresh = ∅ := StableHlo.forall_fresh_of_map rfl
/-- Each writes inside the list above. -/
theorem acts_writes : (acts : List (HloOp τ sig (Elt F))).Forall fun op => op.writes ⊆ (acts_W.map (Proc.devRef (τ := τ) .tc)).toFinset := StableHlo.forall_writes_sub_of_map rfl

/-- Operations, in order: the linear layer and the row maximum. -/
abbrev outA : List (HloOp τ sig (Elt F)) :=
  ( StableHlo.unary main_arg17 main_v130 ((transpose S64x2 [1, 0] · transposes_S2x64_S64x2_1_0) : Ar F S2x64 → Ar F S64x2)
  :: StableHlo.binary main_v129_9 main_v130 main_v131 ((fun l r => Host.dotGeneral dot_S64x64_S64x2_S64x2_1_0_0_1_n_n none l r) : Ar F S64x64 → Ar F S64x2 → Ar F S64x2)
  :: StableHlo.unary main_arg18 main_v132 (broadcastInDim S1x2 ![1] bcast_S2_S1x2_1 : Ar F S2 → Ar F S1x2)
  :: StableHlo.unary main_v132 main_v133 (broadcastInDim S64x2 ![0, 1] bcast_S1x2_S64x2_0_1 : Ar F S1x2 → Ar F S64x2)
  :: StableHlo.binary main_v131 main_v133 main_v134 (addf : Ar F S64x2 → Ar F S64x2 → Ar F S64x2)
  :: StableHlo.nullary main_cst_20 (constant S_ .f32 0xFF800000#32)
  :: StableHlo.binary main_v134 main_cst_20 main_v135 ((fun x v => Host.reduce FloatOps.maximumf x v reducesTo_S64x2_S64_d1 h_S_) : Ar F S64x2 → Ar F S_ → Ar F S64)
  :: StableHlo.nullary main_cst_21 (constant S_ .f32 0xFF800000#32)
  :: StableHlo.unary main_cst_21 main_v136 (broadcastInDim S64 ![] bcast_S_S64 : Ar F S_ → Ar F S64)
  :: StableHlo.binary main_v136 main_v135 main_v137 (maximumf : Ar F S64 → Ar F S64 → Ar F S64)
  :: StableHlo.unary main_v137 main_v138 (broadcastInDim S64x1 ![0] bcast_S64_S64x1_0 : Ar F S64 → Ar F S64x1)
  :: [] )
/-- The references those operations write. -/
abbrev outA_W : List (Ref sig .tc) := [main_v130, main_v131, main_v132, main_v133, main_v134, main_cst_20, main_v135, main_cst_21, main_v136, main_v137, main_v138]
/-- They touch only the TensorCore's references. -/
theorem outA_sub : (outA : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub ..⟩
/-- None of them allocates. -/
theorem outA_fresh : (outA : List (HloOp τ sig (Elt F))).Forall fun op => op.fresh = ∅ := StableHlo.forall_fresh_of_map rfl
/-- Each writes inside the list above. -/
theorem outA_writes : (outA : List (HloOp τ sig (Elt F))).Forall fun op => op.writes ⊆ (outA_W.map (Proc.devRef (τ := τ) .tc)).toFinset := StableHlo.forall_writes_sub_of_map rfl

/-- Operations, in order: the exponentials and their quotient. -/
abbrev outB : List (HloOp τ sig (Elt F)) :=
  ( StableHlo.unary main_v138 main_v139 (broadcastInDim S64x2 ![0, 1] bcast_S64x1_S64x2_0_1 : Ar F S64x1 → Ar F S64x2)
  :: StableHlo.binary main_v134 main_v139 main_v140 (subf : Ar F S64x2 → Ar F S64x2 → Ar F S64x2)
  :: StableHlo.unary main_v140 main_v141 (Host.exp : Ar F S64x2 → Ar F S64x2)
  :: StableHlo.nullary main_cst_22 (constant S_ .f32 0x00000000#32)
  :: StableHlo.binary main_v141 main_cst_22 main_v142 ((fun x v => Host.reduceAdd x v reducesTo_S64x2_S64_d1 h_S_) : Ar F S64x2 → Ar F S_ → Ar F S64)
  :: StableHlo.unary main_v142 main_v143 (broadcastInDim S64x1 ![0] bcast_S64_S64x1_0 : Ar F S64 → Ar F S64x1)
  :: StableHlo.unary main_v143 main_v144 (broadcastInDim S64x2 ![0, 1] bcast_S64x1_S64x2_0_1 : Ar F S64x1 → Ar F S64x2)
  :: StableHlo.binary main_v141 main_v144 main_v145 (Host.divf : Ar F S64x2 → Ar F S64x2 → Ar F S64x2)
  :: [] )
/-- The references those operations write. -/
abbrev outB_W : List (Ref sig .tc) := [main_v139, main_v140, main_v141, main_cst_22, main_v142, main_v143, main_v144, main_v145]
/-- They touch only the TensorCore's references. -/
theorem outB_sub : (outB : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- None of them allocates. -/
theorem outB_fresh : (outB : List (HloOp τ sig (Elt F))).Forall fun op => op.fresh = ∅ := StableHlo.forall_fresh_of_map rfl
/-- Each writes inside the list above. -/
theorem outB_writes : (outB : List (HloOp τ sig (Elt F))).Forall fun op => op.writes ⊆ (outB_W.map (Proc.devRef (τ := τ) .tc)).toFinset := StableHlo.forall_writes_sub_of_map rfl

/-- Operations, in order: the row the first loop reads in one trip. -/
abbrev fetch0 : List (HloOp τ sig (Elt F)) :=
  ( StableHlo.TRef.nullary (.of main_while0b_call0_c : StableHlo.TRef sig ⟨S_, .i32⟩) (constantI S_ 32 0#32)
  :: StableHlo.TRef.nullary (.of main_while0b_call0_c_0 : StableHlo.TRef sig ⟨S_, .i32⟩) (constantI S_ 32 0#32)
  :: StableHlo.TRef.unaryIndexed (.of main_v7_0 : StableHlo.TRef sig ⟨S256x4096x1, .f32⟩) ![(.of main_v7_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x4096x1, .f32⟩) (fun x i => Host.dynamicSlice S1x4096x1 x (fun k => (i k (Shape.Idx.first h_S_)).toInt) sliceFits_S256x4096x1_S1x4096x1)
  :: StableHlo.TRef.reshape (.of main_while0b_call0_v0 : StableHlo.TRef sig ⟨S1x4096x1, .f32⟩) (.of main_while0b_v146 : StableHlo.TRef sig ⟨S4096x1, .f32⟩) (rfl : (.f32 : EltTy) = .f32) shapeCasts_S1x4096x1_S4096x1
  :: [] )
/-- The references those operations write. -/
abbrev fetch0_W : List (Ref sig .tc) := [main_while0b_call0_c, main_while0b_call0_c_0, main_while0b_call0_v0, main_while0b_v146]
/-- They touch only the TensorCore's references. -/
theorem fetch0_sub : (fetch0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- None of them allocates. -/
theorem fetch0_fresh : (fetch0 : List (HloOp τ sig (Elt F))).Forall fun op => op.fresh = ∅ := StableHlo.forall_fresh_of_map rfl
/-- Each writes inside the list above. -/
theorem fetch0_writes : (fetch0 : List (HloOp τ sig (Elt F))).Forall fun op => op.writes ⊆ (fetch0_W.map (Proc.devRef (τ := τ) .tc)).toFinset := StableHlo.forall_writes_sub_of_map rfl

/-- Operations, in order: one step of the forward first-level cell. -/
abbrev fwd0 : List (HloOp τ sig (Elt F)) :=
  ( StableHlo.unary main_v7_1 main_while0b_v147 ((transpose S1x128 [1, 0] · transposes_S128x1_S1x128_1_0) : Ar F S128x1 → Ar F S1x128)
  :: StableHlo.binary main_while0b_v146 main_while0b_v147 main_while0b_v148 ((fun l r => Host.dotGeneral dot_S4096x1_S1x128_S4096x128_1_0_0_1_n_n none l r) : Ar F S4096x1 → Ar F S1x128 → Ar F S4096x128)
  :: StableHlo.unary main_v7_2 main_while0b_v149 ((transpose S32x128 [1, 0] · transposes_S128x32_S32x128_1_0) : Ar F S128x32 → Ar F S32x128)
  :: StableHlo.binary main_v7_5 main_while0b_v149 main_while0b_v150 ((fun l r => Host.dotGeneral dot_S4096x32_S32x128_S4096x128_1_0_0_1_n_n none l r) : Ar F S4096x32 → Ar F S32x128 → Ar F S4096x128)
  :: StableHlo.binary main_while0b_v148 main_while0b_v150 main_while0b_v151 (addf : Ar F S4096x128 → Ar F S4096x128 → Ar F S4096x128)
  :: StableHlo.unary main_v7_3 main_while0b_v152 (broadcastInDim S1x128 ![1] bcast_S128_S1x128_1 : Ar F S128 → Ar F S1x128)
  :: StableHlo.unary main_while0b_v152 main_while0b_v153 (broadcastInDim S4096x128 ![0, 1] bcast_S1x128_S4096x128_0_1 : Ar F S1x128 → Ar F S4096x128)
  :: StableHlo.binary main_while0b_v151 main_while0b_v153 main_while0b_v154 (addf : Ar F S4096x128 → Ar F S4096x128 → Ar F S4096x128)
  :: StableHlo.unary main_while0b_v154 main_while0b_v155 ((extractStridedSlice S4096x32 ![0, 0] · slices_S4096x128_S4096x32_0_0) : Ar F S4096x128 → Ar F S4096x32)
  :: StableHlo.unary main_while0b_v154 main_while0b_v156 ((extractStridedSlice S4096x32 ![0, 32] · slices_S4096x128_S4096x32_0_32) : Ar F S4096x128 → Ar F S4096x32)
  :: StableHlo.unary main_while0b_v154 main_while0b_v157 ((extractStridedSlice S4096x32 ![0, 64] · slices_S4096x128_S4096x32_0_64) : Ar F S4096x128 → Ar F S4096x32)
  :: StableHlo.unary main_while0b_v154 main_while0b_v158 ((extractStridedSlice S4096x32 ![0, 96] · slices_S4096x128_S4096x32_0_96) : Ar F S4096x128 → Ar F S4096x32)
  :: StableHlo.unary main_while0b_v156 main_while0b_v159 (Host.negf : Ar F S4096x32 → Ar F S4096x32)
  :: StableHlo.unary main_while0b_v159 main_while0b_v160 (Host.exp : Ar F S4096x32 → Ar F S4096x32)
  :: StableHlo.nullary main_while0b_cst_29 (constant S_ .f32 0x3F800000#32)
  :: StableHlo.unary main_while0b_cst_29 main_while0b_v161 (broadcastInDim S4096x32 ![] bcast_S_S4096x32 : Ar F S_ → Ar F S4096x32)
  :: StableHlo.binary main_while0b_v161 main_while0b_v160 main_while0b_v162 (addf : Ar F S4096x32 → Ar F S4096x32 → Ar F S4096x32)
  :: StableHlo.nullary main_while0b_cst_30 (constant S_ .f32 0x3F800000#32)
  :: StableHlo.unary main_while0b_cst_30 main_while0b_v163 (broadcastInDim S4096x32 ![] bcast_S_S4096x32 : Ar F S_ → Ar F S4096x32)
  :: StableHlo.binary main_while0b_v163 main_while0b_v162 main_while0b_v164 (Host.divf : Ar F S4096x32 → Ar F S4096x32 → Ar F S4096x32)
  :: StableHlo.binary main_while0b_v164 main_v7_6 main_while0b_v165 (mulf : Ar F S4096x32 → Ar F S4096x32 → Ar F S4096x32)
  :: StableHlo.unary main_while0b_v155 main_while0b_v166 (Host.negf : Ar F S4096x32 → Ar F S4096x32)
  :: StableHlo.unary main_while0b_v166 main_while0b_v167 (Host.exp : Ar F S4096x32 → Ar F S4096x32)
  :: StableHlo.nullary main_while0b_cst_31 (constant S_ .f32 0x3F800000#32)
  :: StableHlo.unary main_while0b_cst_31 main_while0b_v168 (broadcastInDim S4096x32 ![] bcast_S_S4096x32 : Ar F S_ → Ar F S4096x32)
  :: StableHlo.binary main_while0b_v168 main_while0b_v167 main_while0b_v169 (addf : Ar F S4096x32 → Ar F S4096x32 → Ar F S4096x32)
  :: StableHlo.nullary main_while0b_cst_32 (constant S_ .f32 0x3F800000#32)
  :: StableHlo.unary main_while0b_cst_32 main_while0b_v170 (broadcastInDim S4096x32 ![] bcast_S_S4096x32 : Ar F S_ → Ar F S4096x32)
  :: StableHlo.binary main_while0b_v170 main_while0b_v169 main_while0b_v171 (Host.divf : Ar F S4096x32 → Ar F S4096x32 → Ar F S4096x32)
  :: StableHlo.unary main_while0b_v157 main_while0b_v172 (Host.tanh : Ar F S4096x32 → Ar F S4096x32)
  :: StableHlo.binary main_while0b_v171 main_while0b_v172 main_while0b_v173 (mulf : Ar F S4096x32 → Ar F S4096x32 → Ar F S4096x32)
  :: StableHlo.binary main_while0b_v165 main_while0b_v173 main_while0b_v174 (addf : Ar F S4096x32 → Ar F S4096x32 → Ar F S4096x32)
  :: StableHlo.unary main_while0b_v158 main_while0b_v175 (Host.negf : Ar F S4096x32 → Ar F S4096x32)
  :: StableHlo.unary main_while0b_v175 main_while0b_v176 (Host.exp : Ar F S4096x32 → Ar F S4096x32)
  :: StableHlo.nullary main_while0b_cst_33 (constant S_ .f32 0x3F800000#32)
  :: StableHlo.unary main_while0b_cst_33 main_while0b_v177 (broadcastInDim S4096x32 ![] bcast_S_S4096x32 : Ar F S_ → Ar F S4096x32)
  :: StableHlo.binary main_while0b_v177 main_while0b_v176 main_while0b_v178 (addf : Ar F S4096x32 → Ar F S4096x32 → Ar F S4096x32)
  :: StableHlo.nullary main_while0b_cst_34 (constant S_ .f32 0x3F800000#32)
  :: StableHlo.unary main_while0b_cst_34 main_while0b_v179 (broadcastInDim S4096x32 ![] bcast_S_S4096x32 : Ar F S_ → Ar F S4096x32)
  :: StableHlo.binary main_while0b_v179 main_while0b_v178 main_while0b_v180 (Host.divf : Ar F S4096x32 → Ar F S4096x32 → Ar F S4096x32)
  :: StableHlo.unary main_while0b_v174 main_while0b_v181 (Host.tanh : Ar F S4096x32 → Ar F S4096x32)
  :: StableHlo.binary main_while0b_v180 main_while0b_v181 main_while0b_v182 (mulf : Ar F S4096x32 → Ar F S4096x32 → Ar F S4096x32)
  :: [] )
/-- The references those operations write. -/
abbrev fwd0_W : List (Ref sig .tc) := [main_while0b_v147, main_while0b_v148, main_while0b_v149, main_while0b_v150, main_while0b_v151, main_while0b_v152, main_while0b_v153, main_while0b_v154, main_while0b_v155, main_while0b_v156, main_while0b_v157, main_while0b_v158, main_while0b_v159, main_while0b_v160, main_while0b_cst_29, main_while0b_v161, main_while0b_v162, main_while0b_cst_30, main_while0b_v163, main_while0b_v164, main_while0b_v165, main_while0b_v166, main_while0b_v167, main_while0b_cst_31, main_while0b_v168, main_while0b_v169, main_while0b_cst_32, main_while0b_v170, main_while0b_v171, main_while0b_v172, main_while0b_v173, main_while0b_v174, main_while0b_v175, main_while0b_v176, main_while0b_cst_33, main_while0b_v177, main_while0b_v178, main_while0b_cst_34, main_while0b_v179, main_while0b_v180, main_while0b_v181, main_while0b_v182]
/-- They touch only the TensorCore's references. -/
theorem fwd0_sub : (fwd0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- None of them allocates. -/
theorem fwd0_fresh : (fwd0 : List (HloOp τ sig (Elt F))).Forall fun op => op.fresh = ∅ := StableHlo.forall_fresh_of_map rfl
/-- Each writes inside the list above. -/
theorem fwd0_writes : (fwd0 : List (HloOp τ sig (Elt F))).Forall fun op => op.writes ⊆ (fwd0_W.map (Proc.devRef (τ := τ) .tc)).toFinset := StableHlo.forall_writes_sub_of_map rfl

/-- Operations, in order: the counter and the copies back, first loop. -/
abbrev back0 : List (HloOp τ sig (Elt F)) :=
  ( StableHlo.nullary main_while0b_c_35 (constantI S_ 32 1#32)
  :: StableHlo.binary main_v7_4 main_while0b_c_35 main_while0b_v183 (addi : (⟨S_, .i32⟩ : BufTy).Contents (Elt F) → (⟨S_, .i32⟩ : BufTy).Contents (Elt F) → (⟨S_, .i32⟩ : BufTy).Contents (Elt F))
  :: StableHlo.unary main_while0b_v183 main_v7_4 id
  :: StableHlo.unary main_while0b_v182 main_v7_5 id
  :: StableHlo.unary main_while0b_v174 main_v7_6 id
  :: [] )
/-- The references those operations write. -/
abbrev back0_W : List (Ref sig .tc) := [main_while0b_c_35, main_while0b_v183, main_v7_4, main_v7_5, main_v7_6]
/-- They touch only the TensorCore's references. -/
theorem back0_sub : (back0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- None of them allocates. -/
theorem back0_fresh : (back0 : List (HloOp τ sig (Elt F))).Forall fun op => op.fresh = ∅ := StableHlo.forall_fresh_of_map rfl
/-- Each writes inside the list above. -/
theorem back0_writes : (back0 : List (HloOp τ sig (Elt F))).Forall fun op => op.writes ⊆ (back0_W.map (Proc.devRef (τ := τ) .tc)).toFinset := StableHlo.forall_writes_sub_of_map rfl

/-- Operations, in order: the node the second loop reads in one trip. -/
abbrev fetch1 : List (HloOp τ sig (Elt F)) :=
  ( StableHlo.TRef.nullary (.of main_while1b_call1_c : StableHlo.TRef sig ⟨S_, .i32⟩) (constantI S_ 32 0#32)
  :: StableHlo.TRef.nullary (.of main_while1b_call1_c_0 : StableHlo.TRef sig ⟨S_, .i32⟩) (constantI S_ 32 0#32)
  :: StableHlo.TRef.unaryIndexed (.of main_v129_0 : StableHlo.TRef sig ⟨S63x64x64, .f32⟩) ![(.of main_v129_8 : StableHlo.TRef sig ⟨S_, .i32⟩), (.of main_while1b_call1_c : StableHlo.TRef sig ⟨S_, .i32⟩), (.of main_while1b_call1_c_0 : StableHlo.TRef sig ⟨S_, .i32⟩)] (.of main_while1b_call1_v0 : StableHlo.TRef sig ⟨S1x64x64, .f32⟩) (fun x i => Host.dynamicSlice S1x64x64 x (fun k => (i k (Shape.Idx.first h_S_)).toInt) sliceFits_S63x64x64_S1x64x64)
  :: StableHlo.TRef.reshape (.of main_while1b_call1_v0 : StableHlo.TRef sig ⟨S1x64x64, .f32⟩) (.of main_while1b_v146 : StableHlo.TRef sig ⟨S64x64, .f32⟩) (rfl : (.f32 : EltTy) = .f32) shapeCasts_S1x64x64_S64x64
  :: [] )
/-- The references those operations write. -/
abbrev fetch1_W : List (Ref sig .tc) := [main_while1b_call1_c, main_while1b_call1_c_0, main_while1b_call1_v0, main_while1b_v146]
/-- They touch only the TensorCore's references. -/
theorem fetch1_sub : (fetch1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- None of them allocates. -/
theorem fetch1_fresh : (fetch1 : List (HloOp τ sig (Elt F))).Forall fun op => op.fresh = ∅ := StableHlo.forall_fresh_of_map rfl
/-- Each writes inside the list above. -/
theorem fetch1_writes : (fetch1 : List (HloOp τ sig (Elt F))).Forall fun op => op.writes ⊆ (fetch1_W.map (Proc.devRef (τ := τ) .tc)).toFinset := StableHlo.forall_writes_sub_of_map rfl

/-- Operations, in order: the step on the new node from the zero state. -/
abbrev parA : List (HloOp τ sig (Elt F)) :=
  ( StableHlo.unary main_v129_1 main_while1b_v147 ((transpose S64x128 [1, 0] · transposes_S128x64_S64x128_1_0) : Ar F S128x64 → Ar F S64x128)
  :: StableHlo.binary main_while1b_v146 main_while1b_v147 main_while1b_v148 ((fun l r => Host.dotGeneral dot_S64x64_S64x128_S64x128_1_0_0_1_n_n none l r) : Ar F S64x64 → Ar F S64x128 → Ar F S64x128)
  :: StableHlo.unary main_v129_2 main_while1b_v149 ((transpose S32x128 [1, 0] · transposes_S128x32_S32x128_1_0) : Ar F S128x32 → Ar F S32x128)
  :: StableHlo.binary main_v129_3 main_while1b_v149 main_while1b_v150 ((fun l r => Host.dotGeneral dot_S64x32_S32x128_S64x128_1_0_0_1_n_n none l r) : Ar F S64x32 → Ar F S32x128 → Ar F S64x128)
  :: StableHlo.binary main_while1b_v148 main_while1b_v150 main_while1b_v151 (addf : Ar F S64x128 → Ar F S64x128 → Ar F S64x128)
  :: StableHlo.unary main_v129_4 main_while1b_v152 (broadcastInDim S1x128 ![1] bcast_S128_S1x128_1 : Ar F S128 → Ar F S1x128)
  :: StableHlo.unary main_while1b_v152 main_while1b_v153 (broadcastInDim S64x128 ![0, 1] bcast_S1x128_S64x128_0_1 : Ar F S1x128 → Ar F S64x128)
  :: StableHlo.binary main_while1b_v151 main_while1b_v153 main_while1b_v154 (addf : Ar F S64x128 → Ar F S64x128 → Ar F S64x128)
  :: StableHlo.unary main_while1b_v154 main_while1b_v155 ((extractStridedSlice S64x32 ![0, 0] · slices_S64x128_S64x32_0_0) : Ar F S64x128 → Ar F S64x32)
  :: StableHlo.unary main_while1b_v154 main_while1b_v156 ((extractStridedSlice S64x32 ![0, 32] · slices_S64x128_S64x32_0_32) : Ar F S64x128 → Ar F S64x32)
  :: StableHlo.unary main_while1b_v154 main_while1b_v157 ((extractStridedSlice S64x32 ![0, 64] · slices_S64x128_S64x32_0_64) : Ar F S64x128 → Ar F S64x32)
  :: StableHlo.unary main_while1b_v154 main_while1b_v158 ((extractStridedSlice S64x32 ![0, 96] · slices_S64x128_S64x32_0_96) : Ar F S64x128 → Ar F S64x32)
  :: StableHlo.unary main_while1b_v156 main_while1b_v159 (Host.negf : Ar F S64x32 → Ar F S64x32)
  :: StableHlo.unary main_while1b_v159 main_while1b_v160 (Host.exp : Ar F S64x32 → Ar F S64x32)
  :: StableHlo.nullary main_while1b_cst_32 (constant S_ .f32 0x3F800000#32)
  :: StableHlo.unary main_while1b_cst_32 main_while1b_v161 (broadcastInDim S64x32 ![] bcast_S_S64x32 : Ar F S_ → Ar F S64x32)
  :: StableHlo.binary main_while1b_v161 main_while1b_v160 main_while1b_v162 (addf : Ar F S64x32 → Ar F S64x32 → Ar F S64x32)
  :: StableHlo.nullary main_while1b_cst_33 (constant S_ .f32 0x3F800000#32)
  :: StableHlo.unary main_while1b_cst_33 main_while1b_v163 (broadcastInDim S64x32 ![] bcast_S_S64x32 : Ar F S_ → Ar F S64x32)
  :: StableHlo.binary main_while1b_v163 main_while1b_v162 main_while1b_v164 (Host.divf : Ar F S64x32 → Ar F S64x32 → Ar F S64x32)
  :: StableHlo.binary main_while1b_v164 main_v129_3 main_while1b_v165 (mulf : Ar F S64x32 → Ar F S64x32 → Ar F S64x32)
  :: StableHlo.unary main_while1b_v155 main_while1b_v166 (Host.negf : Ar F S64x32 → Ar F S64x32)
  :: StableHlo.unary main_while1b_v166 main_while1b_v167 (Host.exp : Ar F S64x32 → Ar F S64x32)
  :: StableHlo.nullary main_while1b_cst_34 (constant S_ .f32 0x3F800000#32)
  :: StableHlo.unary main_while1b_cst_34 main_while1b_v168 (broadcastInDim S64x32 ![] bcast_S_S64x32 : Ar F S_ → Ar F S64x32)
  :: StableHlo.binary main_while1b_v168 main_while1b_v167 main_while1b_v169 (addf : Ar F S64x32 → Ar F S64x32 → Ar F S64x32)
  :: StableHlo.nullary main_while1b_cst_35 (constant S_ .f32 0x3F800000#32)
  :: StableHlo.unary main_while1b_cst_35 main_while1b_v170 (broadcastInDim S64x32 ![] bcast_S_S64x32 : Ar F S_ → Ar F S64x32)
  :: StableHlo.binary main_while1b_v170 main_while1b_v169 main_while1b_v171 (Host.divf : Ar F S64x32 → Ar F S64x32 → Ar F S64x32)
  :: StableHlo.unary main_while1b_v157 main_while1b_v172 (Host.tanh : Ar F S64x32 → Ar F S64x32)
  :: StableHlo.binary main_while1b_v171 main_while1b_v172 main_while1b_v173 (mulf : Ar F S64x32 → Ar F S64x32 → Ar F S64x32)
  :: StableHlo.binary main_while1b_v165 main_while1b_v173 main_while1b_v174 (addf : Ar F S64x32 → Ar F S64x32 → Ar F S64x32)
  :: StableHlo.unary main_while1b_v158 main_while1b_v175 (Host.negf : Ar F S64x32 → Ar F S64x32)
  :: StableHlo.unary main_while1b_v175 main_while1b_v176 (Host.exp : Ar F S64x32 → Ar F S64x32)
  :: StableHlo.nullary main_while1b_cst_36 (constant S_ .f32 0x3F800000#32)
  :: StableHlo.unary main_while1b_cst_36 main_while1b_v177 (broadcastInDim S64x32 ![] bcast_S_S64x32 : Ar F S_ → Ar F S64x32)
  :: StableHlo.binary main_while1b_v177 main_while1b_v176 main_while1b_v178 (addf : Ar F S64x32 → Ar F S64x32 → Ar F S64x32)
  :: StableHlo.nullary main_while1b_cst_37 (constant S_ .f32 0x3F800000#32)
  :: StableHlo.unary main_while1b_cst_37 main_while1b_v179 (broadcastInDim S64x32 ![] bcast_S_S64x32 : Ar F S_ → Ar F S64x32)
  :: StableHlo.binary main_while1b_v179 main_while1b_v178 main_while1b_v180 (Host.divf : Ar F S64x32 → Ar F S64x32 → Ar F S64x32)
  :: StableHlo.unary main_while1b_v174 main_while1b_v181 (Host.tanh : Ar F S64x32 → Ar F S64x32)
  :: StableHlo.binary main_while1b_v180 main_while1b_v181 main_while1b_v182 (mulf : Ar F S64x32 → Ar F S64x32 → Ar F S64x32)
  :: [] )
/-- The references those operations write. -/
abbrev parA_W : List (Ref sig .tc) := [main_while1b_v147, main_while1b_v148, main_while1b_v149, main_while1b_v150, main_while1b_v151, main_while1b_v152, main_while1b_v153, main_while1b_v154, main_while1b_v155, main_while1b_v156, main_while1b_v157, main_while1b_v158, main_while1b_v159, main_while1b_v160, main_while1b_cst_32, main_while1b_v161, main_while1b_v162, main_while1b_cst_33, main_while1b_v163, main_while1b_v164, main_while1b_v165, main_while1b_v166, main_while1b_v167, main_while1b_cst_34, main_while1b_v168, main_while1b_v169, main_while1b_cst_35, main_while1b_v170, main_while1b_v171, main_while1b_v172, main_while1b_v173, main_while1b_v174, main_while1b_v175, main_while1b_v176, main_while1b_cst_36, main_while1b_v177, main_while1b_v178, main_while1b_cst_37, main_while1b_v179, main_while1b_v180, main_while1b_v181, main_while1b_v182]
/-- They touch only the TensorCore's references. -/
theorem parA_sub : (parA : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- None of them allocates. -/
theorem parA_fresh : (parA : List (HloOp τ sig (Elt F))).Forall fun op => op.fresh = ∅ := StableHlo.forall_fresh_of_map rfl
/-- Each writes inside the list above. -/
theorem parA_writes : (parA : List (HloOp τ sig (Elt F))).Forall fun op => op.writes ⊆ (parA_W.map (Proc.devRef (τ := τ) .tc)).toFinset := StableHlo.forall_writes_sub_of_map rfl

/-- Operations, in order: the step on the running features, up to the forget gate. -/
abbrev parB : List (HloOp τ sig (Elt F)) :=
  ( StableHlo.unary main_v129_1 main_while1b_v183 ((transpose S64x128 [1, 0] · transposes_S128x64_S64x128_1_0) : Ar F S128x64 → Ar F S64x128)
  :: StableHlo.binary main_v129_9 main_while1b_v183 main_while1b_v184 ((fun l r => Host.dotGeneral dot_S64x64_S64x128_S64x128_1_0_0_1_n_n none l r) : Ar F S64x64 → Ar F S64x128 → Ar F S64x128)
  :: StableHlo.unary main_v129_2 main_while1b_v185 ((transpose S32x128 [1, 0] · transposes_S128x32_S32x128_1_0) : Ar F S128x32 → Ar F S32x128)
  :: StableHlo.binary main_while1b_v182 main_while1b_v185 main_while1b_v186 ((fun l r => Host.dotGeneral dot_S64x32_S32x128_S64x128_1_0_0_1_n_n none l r) : Ar F S64x32 → Ar F S32x128 → Ar F S64x128)
  :: StableHlo.binary main_while1b_v184 main_while1b_v186 main_while1b_v187 (addf : Ar F S64x128 → Ar F S64x128 → Ar F S64x128)
  :: StableHlo.unary main_v129_4 main_while1b_v188 (broadcastInDim S1x128 ![1] bcast_S128_S1x128_1 : Ar F S128 → Ar F S1x128)
  :: StableHlo.unary main_while1b_v188 main_while1b_v189 (broadcastInDim S64x128 ![0, 1] bcast_S1x128_S64x128_0_1 : Ar F S1x128 → Ar F S64x128)
  :: StableHlo.binary main_while1b_v187 main_while1b_v189 main_while1b_v190 (addf : Ar F S64x128 → Ar F S64x128 → Ar F S64x128)
  :: StableHlo.unary main_while1b_v190 main_while1b_v191 ((extractStridedSlice S64x32 ![0, 0] · slices_S64x128_S64x32_0_0) : Ar F S64x128 → Ar F S64x32)
  :: StableHlo.unary main_while1b_v190 main_while1b_v192 ((extractStridedSlice S64x32 ![0, 32] · slices_S64x128_S64x32_0_32) : Ar F S64x128 → Ar F S64x32)
  :: StableHlo.unary main_while1b_v190 main_while1b_v193 ((extractStridedSlice S64x32 ![0, 64] · slices_S64x128_S64x32_0_64) : Ar F S64x128 → Ar F S64x32)
  :: StableHlo.unary main_while1b_v190 main_while1b_v194 ((extractStridedSlice S64x32 ![0, 96] · slices_S64x128_S64x32_0_96) : Ar F S64x128 → Ar F S64x32)
  :: StableHlo.unary main_while1b_v192 main_while1b_v195 (Host.negf : Ar F S64x32 → Ar F S64x32)
  :: StableHlo.unary main_while1b_v195 main_while1b_v196 (Host.exp : Ar F S64x32 → Ar F S64x32)
  :: StableHlo.nullary main_while1b_cst_38 (constant S_ .f32 0x3F800000#32)
  :: StableHlo.unary main_while1b_cst_38 main_while1b_v197 (broadcastInDim S64x32 ![] bcast_S_S64x32 : Ar F S_ → Ar F S64x32)
  :: StableHlo.binary main_while1b_v197 main_while1b_v196 main_while1b_v198 (addf : Ar F S64x32 → Ar F S64x32 → Ar F S64x32)
  :: [] )
/-- The references those operations write. -/
abbrev parB_W : List (Ref sig .tc) := [main_while1b_v183, main_while1b_v184, main_while1b_v185, main_while1b_v186, main_while1b_v187, main_while1b_v188, main_while1b_v189, main_while1b_v190, main_while1b_v191, main_while1b_v192, main_while1b_v193, main_while1b_v194, main_while1b_v195, main_while1b_v196, main_while1b_cst_38, main_while1b_v197, main_while1b_v198]
/-- They touch only the TensorCore's references. -/
theorem parB_sub : (parB : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub ..⟩
/-- None of them allocates. -/
theorem parB_fresh : (parB : List (HloOp τ sig (Elt F))).Forall fun op => op.fresh = ∅ := StableHlo.forall_fresh_of_map rfl
/-- Each writes inside the list above. -/
theorem parB_writes : (parB : List (HloOp τ sig (Elt F))).Forall fun op => op.writes ⊆ (parB_W.map (Proc.devRef (τ := τ) .tc)).toFinset := StableHlo.forall_writes_sub_of_map rfl

/-- Operations, in order: the rest of that step. -/
abbrev parC : List (HloOp τ sig (Elt F)) :=
  ( StableHlo.nullary main_while1b_cst_39 (constant S_ .f32 0x3F800000#32)
  :: StableHlo.unary main_while1b_cst_39 main_while1b_v199 (broadcastInDim S64x32 ![] bcast_S_S64x32 : Ar F S_ → Ar F S64x32)
  :: StableHlo.binary main_while1b_v199 main_while1b_v198 main_while1b_v200 (Host.divf : Ar F S64x32 → Ar F S64x32 → Ar F S64x32)
  :: StableHlo.binary main_while1b_v200 main_while1b_v174 main_while1b_v201 (mulf : Ar F S64x32 → Ar F S64x32 → Ar F S64x32)
  :: StableHlo.unary main_while1b_v191 main_while1b_v202 (Host.negf : Ar F S64x32 → Ar F S64x32)
  :: StableHlo.unary main_while1b_v202 main_while1b_v203 (Host.exp : Ar F S64x32 → Ar F S64x32)
  :: StableHlo.nullary main_while1b_cst_40 (constant S_ .f32 0x3F800000#32)
  :: StableHlo.unary main_while1b_cst_40 main_while1b_v204 (broadcastInDim S64x32 ![] bcast_S_S64x32 : Ar F S_ → Ar F S64x32)
  :: StableHlo.binary main_while1b_v204 main_while1b_v203 main_while1b_v205 (addf : Ar F S64x32 → Ar F S64x32 → Ar F S64x32)
  :: StableHlo.nullary main_while1b_cst_41 (constant S_ .f32 0x3F800000#32)
  :: StableHlo.unary main_while1b_cst_41 main_while1b_v206 (broadcastInDim S64x32 ![] bcast_S_S64x32 : Ar F S_ → Ar F S64x32)
  :: StableHlo.binary main_while1b_v206 main_while1b_v205 main_while1b_v207 (Host.divf : Ar F S64x32 → Ar F S64x32 → Ar F S64x32)
  :: StableHlo.unary main_while1b_v193 main_while1b_v208 (Host.tanh : Ar F S64x32 → Ar F S64x32)
  :: StableHlo.binary main_while1b_v207 main_while1b_v208 main_while1b_v209 (mulf : Ar F S64x32 → Ar F S64x32 → Ar F S64x32)
  :: StableHlo.binary main_while1b_v201 main_while1b_v209 main_while1b_v210 (addf : Ar F S64x32 → Ar F S64x32 → Ar F S64x32)
  :: StableHlo.unary main_while1b_v194 main_while1b_v211 (Host.negf : Ar F S64x32 → Ar F S64x32)
  :: StableHlo.unary main_while1b_v211 main_while1b_v212 (Host.exp : Ar F S64x32 → Ar F S64x32)
  :: StableHlo.nullary main_while1b_cst_42 (constant S_ .f32 0x3F800000#32)
  :: StableHlo.unary main_while1b_cst_42 main_while1b_v213 (broadcastInDim S64x32 ![] bcast_S_S64x32 : Ar F S_ → Ar F S64x32)
  :: StableHlo.binary main_while1b_v213 main_while1b_v212 main_while1b_v214 (addf : Ar F S64x32 → Ar F S64x32 → Ar F S64x32)
  :: StableHlo.nullary main_while1b_cst_43 (constant S_ .f32 0x3F800000#32)
  :: StableHlo.unary main_while1b_cst_43 main_while1b_v215 (broadcastInDim S64x32 ![] bcast_S_S64x32 : Ar F S_ → Ar F S64x32)
  :: StableHlo.binary main_while1b_v215 main_while1b_v214 main_while1b_v216 (Host.divf : Ar F S64x32 → Ar F S64x32 → Ar F S64x32)
  :: StableHlo.unary main_while1b_v210 main_while1b_v217 (Host.tanh : Ar F S64x32 → Ar F S64x32)
  :: StableHlo.binary main_while1b_v216 main_while1b_v217 main_while1b_v218 (mulf : Ar F S64x32 → Ar F S64x32 → Ar F S64x32)
  :: [] )
/-- The references those operations write. -/
abbrev parC_W : List (Ref sig .tc) := [main_while1b_cst_39, main_while1b_v199, main_while1b_v200, main_while1b_v201, main_while1b_v202, main_while1b_v203, main_while1b_cst_40, main_while1b_v204, main_while1b_v205, main_while1b_cst_41, main_while1b_v206, main_while1b_v207, main_while1b_v208, main_while1b_v209, main_while1b_v210, main_while1b_v211, main_while1b_v212, main_while1b_cst_42, main_while1b_v213, main_while1b_v214, main_while1b_cst_43, main_while1b_v215, main_while1b_v216, main_while1b_v217, main_while1b_v218]
/-- They touch only the TensorCore's references. -/
theorem parC_sub : (parC : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- None of them allocates. -/
theorem parC_fresh : (parC : List (HloOp τ sig (Elt F))).Forall fun op => op.fresh = ∅ := StableHlo.forall_fresh_of_map rfl
/-- Each writes inside the list above. -/
theorem parC_writes : (parC : List (HloOp τ sig (Elt F))).Forall fun op => op.writes ⊆ (parC_W.map (Proc.devRef (τ := τ) .tc)).toFinset := StableHlo.forall_writes_sub_of_map rfl

/-- Operations, in order: the backward step on the running features, up to its new cell state. -/
abbrev parD : List (HloOp τ sig (Elt F)) :=
  ( StableHlo.unary main_v129_5 main_while1b_v219 ((transpose S64x128 [1, 0] · transposes_S128x64_S64x128_1_0) : Ar F S128x64 → Ar F S64x128)
  :: StableHlo.binary main_v129_9 main_while1b_v219 main_while1b_v220 ((fun l r => Host.dotGeneral dot_S64x64_S64x128_S64x128_1_0_0_1_n_n none l r) : Ar F S64x64 → Ar F S64x128 → Ar F S64x128)
  :: StableHlo.unary main_v129_6 main_while1b_v221 ((transpose S32x128 [1, 0] · transposes_S128x32_S32x128_1_0) : Ar F S128x32 → Ar F S32x128)
  :: StableHlo.binary main_v129_3 main_while1b_v221 main_while1b_v222 ((fun l r => Host.dotGeneral dot_S64x32_S32x128_S64x128_1_0_0_1_n_n none l r) : Ar F S64x32 → Ar F S32x128 → Ar F S64x128)
  :: StableHlo.binary main_while1b_v220 main_while1b_v222 main_while1b_v223 (addf : Ar F S64x128 → Ar F S64x128 → Ar F S64x128)
  :: StableHlo.unary main_v129_7 main_while1b_v224 (broadcastInDim S1x128 ![1] bcast_S128_S1x128_1 : Ar F S128 → Ar F S1x128)
  :: StableHlo.unary main_while1b_v224 main_while1b_v225 (broadcastInDim S64x128 ![0, 1] bcast_S1x128_S64x128_0_1 : Ar F S1x128 → Ar F S64x128)
  :: StableHlo.binary main_while1b_v223 main_while1b_v225 main_while1b_v226 (addf : Ar F S64x128 → Ar F S64x128 → Ar F S64x128)
  :: StableHlo.unary main_while1b_v226 main_while1b_v227 ((extractStridedSlice S64x32 ![0, 0] · slices_S64x128_S64x32_0_0) : Ar F S64x128 → Ar F S64x32)
  :: StableHlo.unary main_while1b_v226 main_while1b_v228 ((extractStridedSlice S64x32 ![0, 32] · slices_S64x128_S64x32_0_32) : Ar F S64x128 → Ar F S64x32)
  :: StableHlo.unary main_while1b_v226 main_while1b_v229 ((extractStridedSlice S64x32 ![0, 64] · slices_S64x128_S64x32_0_64) : Ar F S64x128 → Ar F S64x32)
  :: StableHlo.unary main_while1b_v226 main_while1b_v230 ((extractStridedSlice S64x32 ![0, 96] · slices_S64x128_S64x32_0_96) : Ar F S64x128 → Ar F S64x32)
  :: StableHlo.unary main_while1b_v228 main_while1b_v231 (Host.negf : Ar F S64x32 → Ar F S64x32)
  :: StableHlo.unary main_while1b_v231 main_while1b_v232 (Host.exp : Ar F S64x32 → Ar F S64x32)
  :: StableHlo.nullary main_while1b_cst_44 (constant S_ .f32 0x3F800000#32)
  :: StableHlo.unary main_while1b_cst_44 main_while1b_v233 (broadcastInDim S64x32 ![] bcast_S_S64x32 : Ar F S_ → Ar F S64x32)
  :: StableHlo.binary main_while1b_v233 main_while1b_v232 main_while1b_v234 (addf : Ar F S64x32 → Ar F S64x32 → Ar F S64x32)
  :: StableHlo.nullary main_while1b_cst_45 (constant S_ .f32 0x3F800000#32)
  :: StableHlo.unary main_while1b_cst_45 main_while1b_v235 (broadcastInDim S64x32 ![] bcast_S_S64x32 : Ar F S_ → Ar F S64x32)
  :: StableHlo.binary main_while1b_v235 main_while1b_v234 main_while1b_v236 (Host.divf : Ar F S64x32 → Ar F S64x32 → Ar F S64x32)
  :: StableHlo.binary main_while1b_v236 main_v129_3 main_while1b_v237 (mulf : Ar F S64x32 → Ar F S64x32 → Ar F S64x32)
  :: StableHlo.unary main_while1b_v227 main_while1b_v238 (Host.negf : Ar F S64x32 → Ar F S64x32)
  :: StableHlo.unary main_while1b_v238 main_while1b_v239 (Host.exp : Ar F S64x32 → Ar F S64x32)
  :: StableHlo.nullary main_while1b_cst_46 (constant S_ .f32 0x3F800000#32)
  :: StableHlo.unary main_while1b_cst_46 main_while1b_v240 (broadcastInDim S64x32 ![] bcast_S_S64x32 : Ar F S_ → Ar F S64x32)
  :: StableHlo.binary main_while1b_v240 main_while1b_v239 main_while1b_v241 (addf : Ar F S64x32 → Ar F S64x32 → Ar F S64x32)
  :: StableHlo.nullary main_while1b_cst_47 (constant S_ .f32 0x3F800000#32)
  :: StableHlo.unary main_while1b_cst_47 main_while1b_v242 (broadcastInDim S64x32 ![] bcast_S_S64x32 : Ar F S_ → Ar F S64x32)
  :: StableHlo.binary main_while1b_v242 main_while1b_v241 main_while1b_v243 (Host.divf : Ar F S64x32 → Ar F S64x32 → Ar F S64x32)
  :: StableHlo.unary main_while1b_v229 main_while1b_v244 (Host.tanh : Ar F S64x32 → Ar F S64x32)
  :: StableHlo.binary main_while1b_v243 main_while1b_v244 main_while1b_v245 (mulf : Ar F S64x32 → Ar F S64x32 → Ar F S64x32)
  :: StableHlo.binary main_while1b_v237 main_while1b_v245 main_while1b_v246 (addf : Ar F S64x32 → Ar F S64x32 → Ar F S64x32)
  :: StableHlo.unary main_while1b_v230 main_while1b_v247 (Host.negf : Ar F S64x32 → Ar F S64x32)
  :: StableHlo.unary main_while1b_v247 main_while1b_v248 (Host.exp : Ar F S64x32 → Ar F S64x32)
  :: StableHlo.nullary main_while1b_cst_48 (constant S_ .f32 0x3F800000#32)
  :: [] )
/-- The references those operations write. -/
abbrev parD_W : List (Ref sig .tc) := [main_while1b_v219, main_while1b_v220, main_while1b_v221, main_while1b_v222, main_while1b_v223, main_while1b_v224, main_while1b_v225, main_while1b_v226, main_while1b_v227, main_while1b_v228, main_while1b_v229, main_while1b_v230, main_while1b_v231, main_while1b_v232, main_while1b_cst_44, main_while1b_v233, main_while1b_v234, main_while1b_cst_45, main_while1b_v235, main_while1b_v236, main_while1b_v237, main_while1b_v238, main_while1b_v239, main_while1b_cst_46, main_while1b_v240, main_while1b_v241, main_while1b_cst_47, main_while1b_v242, main_while1b_v243, main_while1b_v244, main_while1b_v245, main_while1b_v246, main_while1b_v247, main_while1b_v248, main_while1b_cst_48]
/-- They touch only the TensorCore's references. -/
theorem parD_sub : (parD : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub ..⟩
/-- None of them allocates. -/
theorem parD_fresh : (parD : List (HloOp τ sig (Elt F))).Forall fun op => op.fresh = ∅ := StableHlo.forall_fresh_of_map rfl
/-- Each writes inside the list above. -/
theorem parD_writes : (parD : List (HloOp τ sig (Elt F))).Forall fun op => op.writes ⊆ (parD_W.map (Proc.devRef (τ := τ) .tc)).toFinset := StableHlo.forall_writes_sub_of_map rfl

/-- Operations, in order: the rest of that step and the new features. -/
abbrev parE : List (HloOp τ sig (Elt F)) :=
  ( StableHlo.unary main_while1b_cst_48 main_while1b_v249 (broadcastInDim S64x32 ![] bcast_S_S64x32 : Ar F S_ → Ar F S64x32)
  :: StableHlo.binary main_while1b_v249 main_while1b_v248 main_while1b_v250 (addf : Ar F S64x32 → Ar F S64x32 → Ar F S64x32)
  :: StableHlo.nullary main_while1b_cst_49 (constant S_ .f32 0x3F800000#32)
  :: StableHlo.unary main_while1b_cst_49 main_while1b_v251 (broadcastInDim S64x32 ![] bcast_S_S64x32 : Ar F S_ → Ar F S64x32)
  :: StableHlo.binary main_while1b_v251 main_while1b_v250 main_while1b_v252 (Host.divf : Ar F S64x32 → Ar F S64x32 → Ar F S64x32)
  :: StableHlo.unary main_while1b_v246 main_while1b_v253 (Host.tanh : Ar F S64x32 → Ar F S64x32)
  :: StableHlo.binary main_while1b_v252 main_while1b_v253 main_while1b_v254 (mulf : Ar F S64x32 → Ar F S64x32 → Ar F S64x32)
  :: StableHlo.binary main_while1b_v218 main_while1b_v254 main_while1b_v255 ((fun a b => concatenate S64x64 1 [⟨S64x32, a⟩, ⟨S64x32, b⟩] concatenates_S64x32_S64x32_S64x64_d1) : Ar F S64x32 → Ar F S64x32 → Ar F S64x64)
  :: [] )
/-- The references those operations write. -/
abbrev parE_W : List (Ref sig .tc) := [main_while1b_v249, main_while1b_v250, main_while1b_cst_49, main_while1b_v251, main_while1b_v252, main_while1b_v253, main_while1b_v254, main_while1b_v255]
/-- They touch only the TensorCore's references. -/
theorem parE_sub : (parE : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub ..⟩
/-- None of them allocates. -/
theorem parE_fresh : (parE : List (HloOp τ sig (Elt F))).Forall fun op => op.fresh = ∅ := StableHlo.forall_fresh_of_map rfl
/-- Each writes inside the list above. -/
theorem parE_writes : (parE : List (HloOp τ sig (Elt F))).Forall fun op => op.writes ⊆ (parE_W.map (Proc.devRef (τ := τ) .tc)).toFinset := StableHlo.forall_writes_sub_of_map rfl

/-- Operations, in order: the counter and the copies back, second loop. -/
abbrev back1 : List (HloOp τ sig (Elt F)) :=
  ( StableHlo.nullary main_while1b_c_50 (constantI S_ 32 1#32)
  :: StableHlo.binary main_v129_8 main_while1b_c_50 main_while1b_v256 (addi : (⟨S_, .i32⟩ : BufTy).Contents (Elt F) → (⟨S_, .i32⟩ : BufTy).Contents (Elt F) → (⟨S_, .i32⟩ : BufTy).Contents (Elt F))
  :: StableHlo.unary main_while1b_v256 main_v129_8 id
  :: StableHlo.unary main_while1b_v255 main_v129_9 id
  :: [] )
/-- The references those operations write. -/
abbrev back1_W : List (Ref sig .tc) := [main_while1b_c_50, main_while1b_v256, main_v129_8, main_v129_9]
/-- They touch only the TensorCore's references. -/
theorem back1_sub : (back1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
/-- None of them allocates. -/
theorem back1_fresh : (back1 : List (HloOp τ sig (Elt F))).Forall fun op => op.fresh = ∅ := StableHlo.forall_fresh_of_map rfl
/-- Each writes inside the list above. -/
theorem back1_writes : (back1 : List (HloOp τ sig (Elt F))).Forall fun op => op.writes ⊆ (back1_W.map (Proc.devRef (τ := τ) .tc)).toFinset := StableHlo.forall_writes_sub_of_map rfl

/-- The operations of the first loop's condition. -/
abbrev cond0 : List (HloOp τ sig (Elt F)) :=
  [ StableHlo.nullary main_while0c_c_29 (constantI S_ 32 256#32),
    StableHlo.binary main_v7_4 main_while0c_c_29 main_while0c_v146 (cmpi .slt) ]
/-- What they write. -/
abbrev cond0_W : List (Ref sig .tc) := [main_while0c_c_29, main_while0c_v146]
/-- Each writes inside the list above. -/
theorem cond0_writes : (cond0 : List (HloOp τ sig (Elt F))).Forall fun op => op.writes ⊆ (cond0_W.map (Proc.devRef (τ := τ) .tc)).toFinset := StableHlo.forall_writes_sub_of_map rfl
/-- The operations of the second loop's condition. -/
abbrev cond1 : List (HloOp τ sig (Elt F)) :=
  [ StableHlo.nullary main_while1c_c_32 (constantI S_ 32 63#32),
    StableHlo.binary main_v129_8 main_while1c_c_32 main_while1c_v146 (cmpi .slt) ]
/-- What they write. -/
abbrev cond1_W : List (Ref sig .tc) := [main_while1c_c_32, main_while1c_v146]
/-- Each writes inside the list above. -/
theorem cond1_writes : (cond1 : List (HloOp τ sig (Elt F))).Forall fun op => op.writes ⊆ (cond1_W.map (Proc.devRef (τ := τ) .tc)).toFinset := StableHlo.forall_writes_sub_of_map rfl

/-- One window of statements as a chain. -/
theorem part0_chain (c : Dev nD) : main_part0 (F := F) c = (Pipeline.chainK [StableHlo.seq preA, HostLoop.enter 0] (StableHlo.seq bwdA) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- One window of statements as a chain. -/
theorem part1_chain (c : Dev nD) : main_part1 (F := F) c = (Pipeline.chainK [StableHlo.seq bwdB, StableHlo.seq leafF] (StableHlo.seq leafB) : Prog (TpuEff nD τ sig (Elt F) (HostLoop.Sig (Pipeline.Sig Λ₀ (Fin 0) fun p => (pcfgs (F := F) p).Adm) 2) .tc) PUnit) := by
  rewrite [StableHlo.chainK_seq_cons, StableHlo.chainK_seq_cons]
  chain_rfl

/-- One window of statements as a chain. -/
theorem part2_chain (c : Dev nD) : main_part2 (F := F) c = (Pipeline.chainK [StableHlo.seq leafC, StableHlo.seq acts, HostLoop.enter 1] (StableHlo.seq outA) : Prog (TpuEff nD τ sig (Elt F) (HostLoop.Sig (Pipeline.Sig Λ₀ (Fin 0) fun p => (pcfgs (F := F) p).Adm) 2) .tc) PUnit) := by
  rewrite [StableHlo.chainK_seq_cons, StableHlo.chainK_seq_cons, Pipeline.chainK_cons]
  chain_rfl

/-- The window that ends the sequence, as a chain. -/
theorem part3_chain (c : Dev nD) : main_part3 (F := F) c = (Pipeline.chain [StableHlo.seq outB] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The whole program as a chain. -/
theorem main_items (c : Dev nD) : main (F := F) c = (Pipeline.chain [StableHlo.seq preA, HostLoop.enter 0, StableHlo.seq bwdA, StableHlo.seq bwdB, StableHlo.seq leafF, StableHlo.seq leafB, StableHlo.seq leafC, StableHlo.seq acts, HostLoop.enter 1, StableHlo.seq outA, StableHlo.seq outB] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  chain_rfl

/-- The window that ends the sequence, as a chain. -/
theorem body0_items : main_while0_body (F := F) = (Pipeline.chain [StableHlo.seq fetch0, StableHlo.seq fwd0, StableHlo.seq back0] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, StableHlo.chain_seq_cons]
  chain_rfl

/-- One window of statements as a chain. -/
theorem body1_part0 : main_while1_body_part0 (F := F) = (Pipeline.chainK [StableHlo.seq fetch1, StableHlo.seq parA] (StableHlo.seq parB) : Prog (TpuEff nD τ sig (Elt F) (HostLoop.Sig (Pipeline.Sig Λ₀ (Fin 0) fun p => (pcfgs (F := F) p).Adm) 2) .tc) PUnit) := by
  rewrite [Pipeline.chainK_cons, StableHlo.chainK_seq_cons]
  chain_rfl

/-- One window of statements as a chain. -/
theorem body1_part1 : main_while1_body_part1 (F := F) = (Pipeline.chainK [StableHlo.seq parC] (StableHlo.seq parD) : Prog (TpuEff nD τ sig (Elt F) (HostLoop.Sig (Pipeline.Sig Λ₀ (Fin 0) fun p => (pcfgs (F := F) p).Adm) 2) .tc) PUnit) := by
  rewrite [StableHlo.chainK_seq_cons]
  chain_rfl

/-- The window that ends the sequence, as a chain. -/
theorem body1_part2 : main_while1_body_part2 (F := F) = (Pipeline.chain [StableHlo.seq parE, StableHlo.seq back1] : Prog (TpuEff nD τ sig (Elt F) (HostLoop.Sig (Pipeline.Sig Λ₀ (Fin 0) fun p => (pcfgs (F := F) p).Adm) 2) .tc) PUnit) := by
  rewrite [StableHlo.chain_seq_cons, StableHlo.chain_seq_cons]
  chain_rfl

/-- The second loop's body as a chain. -/
theorem body1_items : main_while1_body (F := F) = (Pipeline.chain [StableHlo.seq fetch1, StableHlo.seq parA, StableHlo.seq parB, StableHlo.seq parC, StableHlo.seq parD, StableHlo.seq parE, StableHlo.seq back1] : Prog (TpuEff nD τ sig (Elt F) (HostLoop.Sig (Pipeline.Sig Λ₀ (Fin 0) fun p => (pcfgs (F := F) p).Adm) 2) .tc) PUnit) := by
  show (main_while1_body_part0 (F := F) >>= fun _ => main_while1_body_part1 (F := F) >>= fun _ => main_while1_body_part2 (F := F)) = _
  rewrite [body1_part2, body1_part1, Pipeline.chainK_bind_chain, body1_part0, Pipeline.chainK_bind_chain]
  chain_rfl

end Cert.ReferenceIdeal.Two
-- ==== Proof.RefRun.lean ====
module
public import proofs.«01_k».proof.Proof.RefOps
public import Idealize.ShloMosaic.Lib.Scf.ExitTest
public import Idealize.ShloMosaic.Lib.Scf.Counter
public import Idealize.ShloMosaic.Lib.StableHlo.RunHlo

@[expose] public section

/-! The run of the reference program: two counted loops among stretches of operations. Every buffer ends at the
    contents the program's operations, taken in order, give it; the arguments end unchanged; the counters end at zero. -/

set_option maxRecDepth 4000

noncomputable section

namespace Cert.ReferenceIdeal.Two
open Cert.ReferenceIdeal Cert.ReferenceIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs CSeg)

variable {F : FTy → Type} [FloatOps F]

/-- The stretch before the first loop. -/
abbrev preI : List (List (HloOp τ sig (Elt F))) := [preA]
/-- The first loop's body. -/
abbrev bodyI0 : List (List (HloOp τ sig (Elt F))) := [fetch0, fwd0, back0]
/-- The stretches between the loops. -/
abbrev midI : List (List (HloOp τ sig (Elt F))) := [bwdA, bwdB, leafF, leafB, leafC, acts]
/-- The second loop's body. -/
abbrev bodyI1 : List (List (HloOp τ sig (Elt F))) := [fetch1, parA, parB, parC, parD, parE, back1]
/-- The stretches after the second loop. -/
abbrev postI : List (List (HloOp τ sig (Elt F))) := [outA, outB]

/-- Those operations stay on the TensorCore and allocate nothing. -/
theorem preI_plain : Plain (preI (F := F)) := .cons preA_sub (hf := List.forall_iff_forall_mem.mp preA_fresh) (.nil)
/-- Those operations stay on the TensorCore and allocate nothing. -/
theorem bodyI0_plain : Plain (bodyI0 (F := F)) := .cons fetch0_sub (hf := List.forall_iff_forall_mem.mp fetch0_fresh) (.cons fwd0_sub (hf := List.forall_iff_forall_mem.mp fwd0_fresh) (.cons back0_sub (hf := List.forall_iff_forall_mem.mp back0_fresh) (.nil)))
/-- Those operations stay on the TensorCore and allocate nothing. -/
theorem midI_plain : Plain (midI (F := F)) := .cons bwdA_sub (hf := List.forall_iff_forall_mem.mp bwdA_fresh) (.cons bwdB_sub (hf := List.forall_iff_forall_mem.mp bwdB_fresh) (.cons leafF_sub (hf := List.forall_iff_forall_mem.mp leafF_fresh) (.cons leafB_sub (hf := List.forall_iff_forall_mem.mp leafB_fresh) (.cons leafC_sub (hf := List.forall_iff_forall_mem.mp leafC_fresh) (.cons acts_sub (hf := List.forall_iff_forall_mem.mp acts_fresh) (.nil))))))
/-- Those operations stay on the TensorCore and allocate nothing. -/
theorem bodyI1_plain : Plain (bodyI1 (F := F)) := .cons fetch1_sub (hf := List.forall_iff_forall_mem.mp fetch1_fresh) (.cons parA_sub (hf := List.forall_iff_forall_mem.mp parA_fresh) (.cons parB_sub (hf := List.forall_iff_forall_mem.mp parB_fresh) (.cons parC_sub (hf := List.forall_iff_forall_mem.mp parC_fresh) (.cons parD_sub (hf := List.forall_iff_forall_mem.mp parD_fresh) (.cons parE_sub (hf := List.forall_iff_forall_mem.mp parE_fresh) (.cons back1_sub (hf := List.forall_iff_forall_mem.mp back1_fresh) (.nil)))))))
/-- Those operations stay on the TensorCore and allocate nothing. -/
theorem postI_plain : Plain (postI (F := F)) := .cons outA_sub (hf := List.forall_iff_forall_mem.mp outA_fresh) (.cons outB_sub (hf := List.forall_iff_forall_mem.mp outB_fresh) (.nil))

section Folds
variable (m : (ℓ : Loc nD τ sig) → Buf (Elt F) ℓ)

/-- The contents before the `k`-th run of the first loop's condition. -/
abbrev at0 (k : ℕ) (c : Dev nD) : Valuation τ sig (Elt F) := atTrip cond0 bodyI0 (entryContents preI m) k c
/-- The contents the second loop starts from. -/
abbrev mid0 (c : Dev nD) : Valuation τ sig (Elt F) := afterL midI (after cond0 (at0 m 256 c))
/-- The contents before the `k`-th run of the second loop's condition. -/
abbrev at1 (k : ℕ) (c : Dev nD) : Valuation τ sig (Elt F) := atTrip cond1 bodyI1 (mid0 m) k c
/-- The contents at the end. -/
abbrev fin (c : Dev nD) : Valuation τ sig (Elt F) := afterL postI (after cond1 (at1 m 63 c))

/-- A buffer those operations do not write keeps its contents. -/
theorem preI_keep (V : Valuation τ sig (Elt F)) (b : Ref sig .tc) (h : b ∉ preA_W) : afterL preI V (Proc.devRef .tc b) = V (Proc.devRef .tc b) := by
  simp only [afterL_cons, afterL_nil]
  rw [after_of_writes_sub preA _ preA_writes h]

/-- A buffer those operations do not write keeps its contents. -/
theorem bodyI0_keep (V : Valuation τ sig (Elt F)) (b : Ref sig .tc) (h : b ∉ fetch0_W ++ fwd0_W ++ back0_W) : afterL bodyI0 V (Proc.devRef .tc b) = V (Proc.devRef .tc b) := by
  simp only [afterL_cons, afterL_nil]
  rw [after_of_writes_sub back0 _ back0_writes (fun hm => h (by simp only [List.mem_append]; tauto)), after_of_writes_sub fwd0 _ fwd0_writes (fun hm => h (by simp only [List.mem_append]; tauto)), after_of_writes_sub fetch0 _ fetch0_writes (fun hm => h (by simp only [List.mem_append]; tauto))]

/-- A buffer those operations do not write keeps its contents. -/
theorem midI_keep (V : Valuation τ sig (Elt F)) (b : Ref sig .tc) (h : b ∉ bwdA_W ++ bwdB_W ++ leafF_W ++ leafB_W ++ leafC_W ++ acts_W) : afterL midI V (Proc.devRef .tc b) = V (Proc.devRef .tc b) := by
  simp only [afterL_cons, afterL_nil]
  rw [after_of_writes_sub acts _ acts_writes (fun hm => h (by simp only [List.mem_append]; tauto)), after_of_writes_sub leafC _ leafC_writes (fun hm => h (by simp only [List.mem_append]; tauto)), after_of_writes_sub leafB _ leafB_writes (fun hm => h (by simp only [List.mem_append]; tauto)), after_of_writes_sub leafF _ leafF_writes (fun hm => h (by simp only [List.mem_append]; tauto)), after_of_writes_sub bwdB _ bwdB_writes (fun hm => h (by simp only [List.mem_append]; tauto)), after_of_writes_sub bwdA _ bwdA_writes (fun hm => h (by simp only [List.mem_append]; tauto))]

/-- A buffer those operations do not write keeps its contents. -/
theorem bodyI1_keep (V : Valuation τ sig (Elt F)) (b : Ref sig .tc) (h : b ∉ fetch1_W ++ parA_W ++ parB_W ++ parC_W ++ parD_W ++ parE_W ++ back1_W) : afterL bodyI1 V (Proc.devRef .tc b) = V (Proc.devRef .tc b) := by
  simp only [afterL_cons, afterL_nil]
  rw [after_of_writes_sub back1 _ back1_writes (fun hm => h (by simp only [List.mem_append]; tauto)), after_of_writes_sub parE _ parE_writes (fun hm => h (by simp only [List.mem_append]; tauto)), after_of_writes_sub parD _ parD_writes (fun hm => h (by simp only [List.mem_append]; tauto)), after_of_writes_sub parC _ parC_writes (fun hm => h (by simp only [List.mem_append]; tauto)), after_of_writes_sub parB _ parB_writes (fun hm => h (by simp only [List.mem_append]; tauto)), after_of_writes_sub parA _ parA_writes (fun hm => h (by simp only [List.mem_append]; tauto)), after_of_writes_sub fetch1 _ fetch1_writes (fun hm => h (by simp only [List.mem_append]; tauto))]

/-- A buffer those operations do not write keeps its contents. -/
theorem postI_keep (V : Valuation τ sig (Elt F)) (b : Ref sig .tc) (h : b ∉ outA_W ++ outB_W) : afterL postI V (Proc.devRef .tc b) = V (Proc.devRef .tc b) := by
  simp only [afterL_cons, afterL_nil]
  rw [after_of_writes_sub outB _ outB_writes (fun hm => h (by simp only [List.mem_append]; tauto)), after_of_writes_sub outA _ outA_writes (fun hm => h (by simp only [List.mem_append]; tauto))]

/-- A buffer that loop does not write keeps its contents through all its trips. -/
theorem at0_keep (c : Dev nD) (b : Ref sig .tc) (h : b ∉ cond0_W ++ (fetch0_W ++ fwd0_W ++ back0_W)) :
    ∀ k, at0 m k c (Proc.devRef .tc b) = entryContents preI m c (Proc.devRef .tc b)
  | 0 => rfl
  | k + 1 => by
    rw [show at0 m (k + 1) c = afterL bodyI0 (after cond0 (at0 m k c)) from rfl,
      bodyI0_keep _ b (fun hm => h (List.mem_append_right _ hm)),
      after_of_writes_sub cond0 _ cond0_writes (fun hm => h (List.mem_append_left _ hm)), at0_keep c b h k]

/-- A buffer that loop does not write keeps its contents through all its trips. -/
theorem at1_keep (c : Dev nD) (b : Ref sig .tc) (h : b ∉ cond1_W ++ (fetch1_W ++ parA_W ++ parB_W ++ parC_W ++ parD_W ++ parE_W ++ back1_W)) :
    ∀ k, at1 m k c (Proc.devRef .tc b) = mid0 m c (Proc.devRef .tc b)
  | 0 => rfl
  | k + 1 => by
    rw [show at1 m (k + 1) c = afterL bodyI1 (after cond1 (at1 m k c)) from rfl,
      bodyI1_keep _ b (fun hm => h (List.mem_append_right _ hm)),
      after_of_writes_sub cond1 _ cond1_writes (fun hm => h (List.mem_append_left _ hm)), at1_keep c b h k]

/-- A buffer no operation writes ends as it started. -/
theorem fin_keep (c : Dev nD) (b : Ref sig .tc)
    (h : b ∉ (preA_W) ++ (cond0_W ++ (fetch0_W ++ fwd0_W ++ back0_W)) ++ (bwdA_W ++ bwdB_W ++ leafF_W ++ leafB_W ++ leafC_W ++ acts_W) ++ (cond1_W ++ (fetch1_W ++ parA_W ++ parB_W ++ parC_W ++ parD_W ++ parE_W ++ back1_W)) ++ (outA_W ++ outB_W)) : fin m c (Proc.devRef .tc b) = m ((c : Thread nD τ).loc b) := by
  simp only [List.mem_append, not_or] at h
  rw [fin, postI_keep _ b (by simp only [List.mem_append, not_or]; tauto),
    after_of_writes_sub cond1 _ cond1_writes (by tauto),
    at1_keep m c b (by simp only [List.mem_append, not_or]; tauto) 63, mid0,
    midI_keep _ b (by simp only [List.mem_append, not_or]; tauto),
    after_of_writes_sub cond0 _ cond0_writes (by tauto),
    at0_keep m c b (by simp only [List.mem_append, not_or]; tauto) 256, entryContents,
    preI_keep _ b (by tauto)]

/-! ## The counters -/

set_option maxRecDepth 100000 in
/-- The counter starts at zero. -/
theorem ctr0_entry (c : Dev nD) : entryContents preI m c (Proc.devRef .tc main_v7_4) = fun _ => (0#32 : BitVec 32) := by
  simp only [entryContents, afterL_cons, afterL_nil]
  after_reads_simp
  rfl

set_option maxRecDepth 100000 in
/-- The last operations of a trip add one to it. -/
theorem ctr0_step (Y : Valuation τ sig (Elt F)) :
    after back0 Y (Proc.devRef .tc main_v7_4) = addi (Y (Proc.devRef .tc main_v7_4)) (constantI S_ 32 1#32) := by
  after_results
  rfl

/-- Before the `k`-th condition the counter is `k`. -/
theorem at0_ctr (c : Dev nD) : ∀ k, at0 m k c (Proc.devRef .tc main_v7_4) = fun _ => Scf.iv 0#32 1#32 k
  | 0 => by rw [show at0 m 0 c = entryContents preI m c from rfl, ctr0_entry, Scf.iv_zero]
  | k + 1 => by
    rw [show at0 m (k + 1) c = afterL bodyI0 (after cond0 (at0 m k c)) from rfl]
    simp only [afterL_cons, afterL_nil]
    rw [ctr0_step, after_of_writes_sub fwd0 _ fwd0_writes (by decide +kernel), after_of_writes_sub fetch0 _ fetch0_writes (by decide +kernel),
      after_of_writes_sub cond0 _ cond0_writes (by decide +kernel), at0_ctr c k, Scf.iv_succ]
    rfl

-- the rule is stated for any thread; at this one unification has to unfold plain definitions inside types
set_option backward.isDefEq.respectTransparency.types false in
/-- The condition holds exactly while fewer than 256 trips have run. -/
theorem cond0_spec : CondSpec (pcfgs (F := F)) defs₀ loops (main_while0_cond (F := F)) cond0 bodyI0 (entryContents preI m) 256 := by
  intro k hk c bd
  have hctr := at0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v7_4 HostLoop.idx0)
        (HloOp.result _ (at0 m k c) main_while0c_c_29 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option maxRecDepth 100000 in
/-- The counter starts at zero. -/
theorem ctr1_entry (c : Dev nD) : mid0 m c (Proc.devRef .tc main_v129_8) = fun _ => (0#32 : BitVec 32) := by
  simp only [mid0, afterL_cons, afterL_nil]
  generalize after (leafC (F := F)) _ = Y
  after_results
  rfl

set_option maxRecDepth 100000 in
/-- The last operations of a trip add one to it. -/
theorem ctr1_step (Y : Valuation τ sig (Elt F)) :
    after back1 Y (Proc.devRef .tc main_v129_8) = addi (Y (Proc.devRef .tc main_v129_8)) (constantI S_ 32 1#32) := by
  after_results
  rfl

/-- Before the `k`-th condition the counter is `k`. -/
theorem at1_ctr (c : Dev nD) : ∀ k, at1 m k c (Proc.devRef .tc main_v129_8) = fun _ => Scf.iv 0#32 1#32 k
  | 0 => by rw [show at1 m 0 c = mid0 m c from rfl, ctr1_entry, Scf.iv_zero]
  | k + 1 => by
    rw [show at1 m (k + 1) c = afterL bodyI1 (after cond1 (at1 m k c)) from rfl]
    simp only [afterL_cons, afterL_nil]
    rw [ctr1_step, after_of_writes_sub parE _ parE_writes (by decide +kernel), after_of_writes_sub parD _ parD_writes (by decide +kernel), after_of_writes_sub parC _ parC_writes (by decide +kernel), after_of_writes_sub parB _ parB_writes (by decide +kernel), after_of_writes_sub parA _ parA_writes (by decide +kernel), after_of_writes_sub fetch1 _ fetch1_writes (by decide +kernel),
      after_of_writes_sub cond1 _ cond1_writes (by decide +kernel), at1_ctr c k, Scf.iv_succ]
    rfl

-- the rule is stated for any thread; at this one unification has to unfold plain definitions inside types
set_option backward.isDefEq.respectTransparency.types false in
/-- The condition holds exactly while fewer than 63 trips have run. -/
theorem cond1_spec : CondSpec (pcfgs (F := F)) defs₀ loops (main_while1_cond (F := F)) cond1 bodyI1 (mid0 m) 63 := by
  intro k hk c bd
  have hctr := at1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v129_8 HostLoop.idx0)
        (HloOp.result _ (at1 m k c) main_while1c_c_32 HostLoop.idx0) = 1#1) (k < 63)
    rw [nullary_result_ne _ _ _ _ (by decide), nullary_result, hctr]
    exact Scf.cmpi_slt_iv_ub_iff (lb := 0#32) (ub := 63#32) (st := 1#32) (by decide) (show k ≤ Scf.trips 0#32 63#32 1#32 from hk)
  isplitl [Hb]; · iexact Hb
  rw [after_cons, after_cons, after_nil]; iexact Hh

end Folds

/-! ## The run -/

local notation "𝕄" => MT nD τ sig Unit (Elt F) ℕ (Option PUnit) ℕ

/-- No pipeline runs, so nothing is to be admitted. -/
abbrev noAdm : (p : Fin 0) → (pcfgs (F := F) p).Adm := fun p => p.elim0
/-- No ticket is issued. -/
abbrev noTk : Fin 0 → Pipeline.Ticket (Ix := Unit) (Name := ℕ) (U := Option PUnit) (Lvl := ℕ) (nD := nD) (τ := τ) (pcfgs (F := F)) noAdm := fun j => j.elim0
/-- No semaphore cell is used. -/
abbrev noL : GSem nD τ sig → Finset Unit := fun _ => ∅
/-- All levels are zero. -/
abbrev noLv : GSem nD τ sig → Unit → ℕ := fun _ _ => 0
/-- What rides along with the buffers: this core owes nothing. -/
abbrev Rest (c : Dev nD) : sProp 𝕄 := iprop(∃ W, owes (c : Thread nD τ) (0 : CellTallies nD τ sig Unit) W)

/-- The condition's specification with that remainder carried through it. -/
theorem carry {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops (Rest (F := F)) cond condOps bodyI W₀ n := fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rest c)
        ⊢ iprop(⌜v = 1#1 ↔ k < n⌝ ∗ boundary (c : Thread nD τ) ∗ held (c : Thread nD τ) (ucRefs τ sig) (after condOps (atTrip condOps bodyI W₀ k c)) ∗ Rest (F := F) c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

variable (m : (ℓ : Loc nD τ sig) → Buf (Elt F) ℓ) (ρ : Dev nD → PrngReg)

/-- The program's segments: a stretch, a loop, a stretch, a loop, a stretch. -/
def refSegs : List (CSeg (pcfgs (F := F)) noAdm defs₀ Variants.none noL noLv loops noTk) :=
  segsOf _ _ _ _ _ _ _ _ Rest preI preI_plain (launchContents m)
    ++ loopSeg _ _ _ _ _ _ _ _ 0 main_while0_cond main_while0_body rfl cond0 bodyI0 bodyI0_plain (by rw [body0_items]; rfl) 256
        (entryContents preI m) Rest (carry (cond0_spec m))
      :: (segsOf _ _ _ _ _ _ _ _ Rest midI midI_plain (fun c => after cond0 (at0 m 256 c))
        ++ loopSeg _ _ _ _ _ _ _ _ 1 main_while1_cond main_while1_body rfl cond1 bodyI1 bodyI1_plain (by rw [body1_items]; rfl) 63
            (mid0 m) Rest (carry (cond1_spec m))
          :: segsOf _ _ _ _ _ _ _ _ Rest postI postI_plain (fun c => after cond1 (at1 m 63 c)))

/-- The programs of the segments, in order. -/
theorem refSegs_prog : (refSegs (F := F) m).map CSeg.prog
    = ((preI (F := F)).map fun ops => (seq ops : Prog _ PUnit)) ++ HostLoop.enter 0 :: (((midI (F := F)).map fun ops => (seq ops : Prog _ PUnit))
      ++ HostLoop.enter 1 :: (postI (F := F)).map fun ops => (seq ops : Prog _ PUnit)) := by
  unfold refSegs
  rw [List.map_append, List.map_cons, List.map_append, List.map_cons, segsOf_prog, segsOf_prog, segsOf_prog]
  rfl

/-- Each segment starts where the one before it ended. -/
theorem refSegs_chains :
    CSeg.Chains (fun c => iprop(held (c : Thread nD τ) (ucRefs τ sig) (launchContents m c) ∗ Rest c)) (refSegs m)
      (fun c => iprop(iprop(held (c : Thread nD τ) (ucRefs τ sig) (fin m c)) ∗ ∃ W, owes (c : Thread nD τ) (0 : CellTallies nD τ sig Unit) W)) := by
  unfold refSegs
  exact CSeg.Chains.append (segsOf_chains _ _ _ _ _ _ _ _ Rest preI preI_plain _) ⟨fun _ => .rfl,
    CSeg.Chains.append (segsOf_chains _ _ _ _ _ _ _ _ Rest midI midI_plain _) ⟨fun _ => .rfl,
      segsOf_chains _ _ _ _ _ _ _ _ Rest postI postI_plain _⟩⟩

/-- The TensorCore has no unscoped semaphore. -/
theorem all_scoped : ∀ sm : SemLoc sig, sm.isScoped .tc = true := by decide

set_option maxRecDepth 100000 in
set_option backward.isDefEq.respectTransparency.types false in
/-- Every execution from memory `m` with zero counters ends, each tensor buffer at `fin m` and each counter at zero. -/
theorem ref_run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (refSegs m)
    (fun c Q => by
      rw [main_items c]
      show wp _ _ _ (Pipeline.chain ((refSegs m).map CSeg.prog)) Q ⊢ _
      rw [refSegs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (fin m c)))
    (hch := refSegs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (.inr (all_scoped g.2))⟩)

/-- The reference's result, as the fold gives it. -/
abbrev refOut (c : Dev nD) : Buf (Elt F) ((c.tc : Thread nD τ).loc main_v145) := fin m c (Proc.devRef .tc main_v145)

set_option maxRecDepth 100000 in
/-- Every execution ends with the result at the fold, the arguments unchanged and the counters at zero. -/
theorem ref_ends : θ_run (defs (F := F)) (onTc (τ := τ) (main (F := F))) ⟨m, fun _ => 0, ρ⟩
    (fun r => (∀ c : Dev nD, r.2.mem ((c.tc : Thread nD τ).loc main_v145) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_mono (ref_run m ρ) fun r h => ⟨fun c => ⟨h.1 c main_v145 (by decide),
      (h.1 c main_arg0 (by decide)).trans (fin_keep m c main_arg0 (by decide +kernel)),
      (h.1 c main_arg1 (by decide)).trans (fin_keep m c main_arg1 (by decide +kernel)),
      (h.1 c main_arg2 (by decide)).trans (fin_keep m c main_arg2 (by decide +kernel)),
      (h.1 c main_arg3 (by decide)).trans (fin_keep m c main_arg3 (by decide +kernel)),
      (h.1 c main_arg4 (by decide)).trans (fin_keep m c main_arg4 (by decide +kernel)),
      (h.1 c main_arg5 (by decide)).trans (fin_keep m c main_arg5 (by decide +kernel)),
      (h.1 c main_arg6 (by decide)).trans (fin_keep m c main_arg6 (by decide +kernel)),
      (h.1 c main_arg7 (by decide)).trans (fin_keep m c main_arg7 (by decide +kernel)),
      (h.1 c main_arg8 (by decide)).trans (fin_keep m c main_arg8 (by decide +kernel)),
      (h.1 c main_arg9 (by decide)).trans (fin_keep m c main_arg9 (by decide +kernel)),
      (h.1 c main_arg10 (by decide)).trans (fin_keep m c main_arg10 (by decide +kernel)),
      (h.1 c main_arg11 (by decide)).trans (fin_keep m c main_arg11 (by decide +kernel)),
      (h.1 c main_arg12 (by decide)).trans (fin_keep m c main_arg12 (by decide +kernel)),
      (h.1 c main_arg13 (by decide)).trans (fin_keep m c main_arg13 (by decide +kernel)),
      (h.1 c main_arg14 (by decide)).trans (fin_keep m c main_arg14 (by decide +kernel)),
      (h.1 c main_arg15 (by decide)).trans (fin_keep m c main_arg15 (by decide +kernel)),
      (h.1 c main_arg16 (by decide)).trans (fin_keep m c main_arg16 (by decide +kernel)),
      (h.1 c main_arg17 (by decide)).trans (fin_keep m c main_arg17 (by decide +kernel)),
      (h.1 c main_arg18 (by decide)).trans (fin_keep m c main_arg18 (by decide +kernel))⟩, h.2⟩

end Cert.ReferenceIdeal.Two
-- ==== Proof.RefStep.lean ====
module
public import proofs.«01_k».proof.Proof.RefOps
public import proofs.«01_k».proof.Proof.Spec
public import Idealize.ShloMosaic.Lib.Pointwise

@[expose] public section

/-! The reference's array functions, read at one lane. -/

set_option maxRecDepth 4000

noncomputable section

namespace Cert.ReferenceIdeal.Two
open Cert.ReferenceIdeal Cert.ReferenceIdeal.Gen Cert.Spec
open Idealize.ShloMosaic Idealize.ShloMosaic.TcCoe Idealize.ShloMosaic.Tactic Idealize.ShloMosaic.StableHlo

variable {F : FTy → Type} [FloatOps F]

/-- All ones, 4096 lanes. -/
def one1 : Ar F S4096x32 := broadcastInDim S4096x32 ![] bcast_S_S4096x32 (constant S_ .f32 0x3F800000#32)
/-- The logistic function on 4096 lanes, as the reference spells it. -/
def sig1 (x : Ar F S4096x32) : Ar F S4096x32 := Host.divf one1 (addf one1 (Host.exp (Host.negf x)))
/-- The gate values on 4096 lanes. -/
def gate1 (x : Ar F S4096x1) (wih : Ar F S128x1) (h : Ar F S4096x32) (whh : Ar F S128x32) (b : Ar F S128) : Ar F S4096x128 :=
  addf (addf (Host.dotGeneral dot_S4096x1_S1x128_S4096x128_1_0_0_1_n_n none x (transpose S1x128 [1, 0] wih transposes_S128x1_S1x128_1_0))
      (Host.dotGeneral dot_S4096x32_S32x128_S4096x128_1_0_0_1_n_n none h (transpose S32x128 [1, 0] whh transposes_S128x32_S32x128_1_0)))
    (broadcastInDim S4096x128 ![0, 1] bcast_S1x128_S4096x128_0_1 (broadcastInDim S1x128 ![1] bcast_S128_S1x128_1 b))
/-- The new cell state on 4096 lanes. -/
def newC1 (g : Ar F S4096x128) (c : Ar F S4096x32) : Ar F S4096x32 :=
  addf (mulf (sig1 (extractStridedSlice S4096x32 ![0, 32] g slices_S4096x128_S4096x32_0_32)) c)
    (mulf (sig1 (extractStridedSlice S4096x32 ![0, 0] g slices_S4096x128_S4096x32_0_0))
      (Host.tanh (extractStridedSlice S4096x32 ![0, 64] g slices_S4096x128_S4096x32_0_64)))
/-- The new hidden state on 4096 lanes. -/
def newH1 (g : Ar F S4096x128) (c' : Ar F S4096x32) : Ar F S4096x32 :=
  mulf (sig1 (extractStridedSlice S4096x32 ![0, 96] g slices_S4096x128_S4096x32_0_96)) (Host.tanh c')

/-- All ones, 64 lanes. -/
def one2 : Ar F S64x32 := broadcastInDim S64x32 ![] bcast_S_S64x32 (constant S_ .f32 0x3F800000#32)
/-- The logistic function on 64 lanes, as the reference spells it. -/
def sig2 (x : Ar F S64x32) : Ar F S64x32 := Host.divf one2 (addf one2 (Host.exp (Host.negf x)))
/-- The gate values on 64 lanes. -/
def gate2 (x : Ar F S64x64) (wih : Ar F S128x64) (h : Ar F S64x32) (whh : Ar F S128x32) (b : Ar F S128) : Ar F S64x128 :=
  addf (addf (Host.dotGeneral dot_S64x64_S64x128_S64x128_1_0_0_1_n_n none x (transpose S64x128 [1, 0] wih transposes_S128x64_S64x128_1_0))
      (Host.dotGeneral dot_S64x32_S32x128_S64x128_1_0_0_1_n_n none h (transpose S32x128 [1, 0] whh transposes_S128x32_S32x128_1_0)))
    (broadcastInDim S64x128 ![0, 1] bcast_S1x128_S64x128_0_1 (broadcastInDim S1x128 ![1] bcast_S128_S1x128_1 b))
/-- The new cell state on 64 lanes. -/
def newC2 (g : Ar F S64x128) (c : Ar F S64x32) : Ar F S64x32 :=
  addf (mulf (sig2 (extractStridedSlice S64x32 ![0, 32] g slices_S64x128_S64x32_0_32)) c)
    (mulf (sig2 (extractStridedSlice S64x32 ![0, 0] g slices_S64x128_S64x32_0_0))
      (Host.tanh (extractStridedSlice S64x32 ![0, 64] g slices_S64x128_S64x32_0_64)))
/-- The new hidden state on 64 lanes. -/
def newH2 (g : Ar F S64x128) (c' : Ar F S64x32) : Ar F S64x32 :=
  mulf (sig2 (extractStridedSlice S64x32 ![0, 96] g slices_S64x128_S64x32_0_96)) (Host.tanh c')

/-- A lane of the gate values. -/
theorem gate1_at (x : Ar Ideal S4096x1) (wih : Ar Ideal S128x1) (h : Ar Ideal S4096x32) (whh : Ar Ideal S128x32) (b : Ar Ideal S128)
    (n : Fin 4096) (r : Fin 128) :
    gate1 x wih h whh b (ix2 n r) = gates1 (fun r => wih (ix2 r 0)) (fun r k => whh (ix2 r k)) (fun r => b (ix1 r)) (x (ix2 n 0)) (fun k => h (ix2 n k)) r := by
  unfold gates1
  pointwise [gate1]
  simp only [Fin.sum_univ_one]

/-- A lane of the new cell state. -/
theorem newC1_at (g : Ar Ideal S4096x128) (c : Ar Ideal S4096x32) (n : Fin 4096) (k : Fin 32) :
    newC1 g c (ix2 n k) = cellC (fun r => g (ix2 n r)) (fun k => c (ix2 n k)) k := by
  unfold cellC
  pointwise [newC1, sig1, one1]

/-- A lane of the new hidden state. -/
theorem newH1_at (g : Ar Ideal S4096x128) (c : Ar Ideal S4096x32) (n : Fin 4096) (k : Fin 32) :
    newH1 g c (ix2 n k) = cellH (fun r => g (ix2 n r)) (fun k => c (ix2 n k)) k := by
  unfold cellH
  pointwise [newH1, sig1, one1]

/-- A lane of the second level's gate values. -/
theorem gate2_at (x : Ar Ideal S64x64) (wih : Ar Ideal S128x64) (h : Ar Ideal S64x32) (whh : Ar Ideal S128x32) (b : Ar Ideal S128)
    (n : Fin 64) (r : Fin 128) :
    gate2 x wih h whh b (ix2 n r) = gates2 (fun r k => wih (ix2 r k)) (fun r k => whh (ix2 r k)) (fun r => b (ix1 r)) (fun k => x (ix2 n k)) (fun k => h (ix2 n k)) r := by
  unfold gates2
  pointwise [gate2]

/-- A lane of the second level's new cell state. -/
theorem newC2_at (g : Ar Ideal S64x128) (c : Ar Ideal S64x32) (n : Fin 64) (k : Fin 32) :
    newC2 g c (ix2 n k) = cellC (fun r => g (ix2 n r)) (fun k => c (ix2 n k)) k := by
  unfold cellC
  pointwise [newC2, sig2, one2]

/-- A lane of the second level's new hidden state. -/
theorem newH2_at (g : Ar Ideal S64x128) (c : Ar Ideal S64x32) (n : Fin 64) (k : Fin 32) :
    newH2 g c (ix2 n k) = cellH (fun r => g (ix2 n r)) (fun k => c (ix2 n k)) k := by
  unfold cellH
  pointwise [newH2, sig2, one2]

end Cert.ReferenceIdeal.Two

end
-- ==== Proof.RefRead.lean ====
module
public import proofs.«01_k».proof.Proof.RefStep

@[expose] public section

/-! What each stretch of the reference leaves in the buffers read later, as array functions of what it found. -/

set_option maxRecDepth 4000

noncomputable section

namespace Cert.ReferenceIdeal.Two
open Cert.ReferenceIdeal Cert.ReferenceIdeal.Gen
open Idealize.ShloMosaic Idealize.ShloMosaic.TcCoe Idealize.ShloMosaic.Tactic Idealize.ShloMosaic.StableHlo

variable {F : FTy → Type} [FloatOps F]

/-- The input as a sequence of 256 columns of 4096 lanes. -/
def seqIn (a : Ar F S64x64x256x1) : Ar F S256x4096x1 :=
  transpose S256x4096x1 [1, 0, 2] (shapeCast S4096x256x1 a shapeCasts_S64x64x256x1_S4096x256x1) transposes_S4096x256x1_S256x4096x1_1_0_2
/-- Zeros on 4096 lanes. -/
def zero1 : Ar F S4096x32 := broadcastInDim S4096x32 ![] bcast_S_S4096x32 (constant S_ .f32 0x00000000#32)
/-- Zeros on 64 lanes. -/
def zero2 : Ar F S64x32 := broadcastInDim S64x32 ![] bcast_S_S64x32 (constant S_ .f32 0x00000000#32)
/-- The last column. -/
def lastCol (x : Ar F S256x4096x1) : Ar F S4096x1 :=
  shapeCast S4096x1 (extractStridedSlice S1x4096x1 ![255, 0, 0] x slices_S256x4096x1_S1x4096x1_255_0_0) shapeCasts_S1x4096x1_S4096x1
/-- A column chosen by a counter. -/
def colAt (x : Ar F S256x4096x1) (i : (⟨S_, .i32⟩ : BufTy).Contents (Elt F)) : Ar F S4096x1 :=
  shapeCast S4096x1 (Host.dynamicSlice S1x4096x1 x (fun k => ((![i, constantI S_ 32 0#32, constantI S_ 32 0#32] : Fin 3 → (⟨S_, .i32⟩ : BufTy).Contents (Elt F)) k (Shape.Idx.first h_S_)).toInt) sliceFits_S256x4096x1_S1x4096x1) shapeCasts_S1x4096x1_S4096x1
/-- The features of all nodes from the two first-level states. -/
def feats (hf hb : Ar F S4096x32) : Ar F S64x64x64 :=
  shapeCast S64x64x64 (concatenate S4096x64 1 [⟨S4096x32, hf⟩, ⟨S4096x32, hb⟩] concatenates_S4096x32_S4096x32_S4096x64_d1) shapeCasts_S4096x64_S64x64x64
/-- The leaf's features. -/
def leafIn (f : Ar F S64x64x64) : Ar F S64x64 :=
  shapeCast S64x64 (extractStridedSlice S64x1x64 ![0, 63, 0] f slices_S64x64x64_S64x1x64_0_63_0) shapeCasts_S64x1x64_S64x64
/-- The other nodes, last first. -/
def others (f : Ar F S64x64x64) : Ar F S63x64x64 :=
  transpose S63x64x64 [1, 0, 2] (Host.reverse [1] (extractStridedSlice S64x63x64 ![0, 0, 0] f slices_S64x64x64_S64x63x64_0_0_0)) transposes_S64x63x64_S63x64x64_1_0_2
/-- A node chosen by a counter. -/
def nodeAt (x : Ar F S63x64x64) (i : (⟨S_, .i32⟩ : BufTy).Contents (Elt F)) : Ar F S64x64 :=
  shapeCast S64x64 (Host.dynamicSlice S1x64x64 x (fun k => ((![i, constantI S_ 32 0#32, constantI S_ 32 0#32] : Fin 3 → (⟨S_, .i32⟩ : BufTy).Contents (Elt F)) k (Shape.Idx.first h_S_)).toInt) sliceFits_S63x64x64_S1x64x64) shapeCasts_S1x64x64_S64x64
/-- Two states side by side. -/
def cat2 (a b : Ar F S64x32) : Ar F S64x64 := concatenate S64x64 1 [⟨S64x32, a⟩, ⟨S64x32, b⟩] concatenates_S64x32_S64x32_S64x64_d1
/-- The two scores of each example. -/
def logits (f : Ar F S64x64) (w : Ar F S2x64) (b : Ar F S2) : Ar F S64x2 :=
  addf (Host.dotGeneral dot_S64x64_S64x2_S64x2_1_0_0_1_n_n none f (transpose S64x2 [1, 0] w transposes_S2x64_S64x2_1_0))
    (broadcastInDim S64x2 ![0, 1] bcast_S1x2_S64x2_0_1 (broadcastInDim S1x2 ![1] bcast_S2_S1x2_1 b))
/-- The larger score of each example, spread over both columns. -/
def rowMax (l : Ar F S64x2) : Ar F S64x1 :=
  broadcastInDim S64x1 ![0] bcast_S64_S64x1_0 (maximumf (broadcastInDim S64 ![] bcast_S_S64 (constant S_ .f32 0xFF800000#32))
    (Host.reduce FloatOps.maximumf l (constant S_ .f32 0xFF800000#32) reducesTo_S64x2_S64_d1 h_S_))
/-- The exponentials of the scores less a column. -/
def expo (l : Ar F S64x2) (mx : Ar F S64x1) : Ar F S64x2 :=
  Host.exp (subf l (broadcastInDim S64x2 ![0, 1] bcast_S64x1_S64x2_0_1 mx))
/-- Each row divided by its sum. -/
def normed (e : Ar F S64x2) : Ar F S64x2 :=
  Host.divf e (broadcastInDim S64x2 ![0, 1] bcast_S64x1_S64x2_0_1 (broadcastInDim S64x1 ![0] bcast_S64_S64x1_0
    (Host.reduceAdd e (constant S_ .f32 0x00000000#32) reducesTo_S64x2_S64_d1 h_S_)))

set_option maxRecDepth 100000 in
/-- A buffer after the first stretch. -/
theorem preA_v7_0 (V : Valuation τ sig (Elt F)) : after preA V (Proc.devRef .tc main_v7_0)
    = seqIn (V (Proc.devRef .tc main_arg0)) := by
  after_reads_simp
  rfl

set_option maxRecDepth 100000 in
/-- A buffer after the first stretch. -/
theorem preA_v7_1 (V : Valuation τ sig (Elt F)) : after preA V (Proc.devRef .tc main_v7_1)
    = (V (Proc.devRef .tc main_arg1)) := by
  after_reads_simp
  rfl

set_option maxRecDepth 100000 in
/-- A buffer after the first stretch. -/
theorem preA_v7_2 (V : Valuation τ sig (Elt F)) : after preA V (Proc.devRef .tc main_v7_2)
    = (V (Proc.devRef .tc main_arg2)) := by
  after_reads_simp
  rfl

set_option maxRecDepth 100000 in
/-- A buffer after the first stretch. -/
theorem preA_v7_3 (V : Valuation τ sig (Elt F)) : after preA V (Proc.devRef .tc main_v7_3)
    = addf (V (Proc.devRef .tc main_arg3)) (V (Proc.devRef .tc main_arg4)) := by
  after_reads_simp
  rfl

set_option maxRecDepth 100000 in
/-- A buffer after the first stretch. -/
theorem preA_v7_5 (V : Valuation τ sig (Elt F)) : after preA V (Proc.devRef .tc main_v7_5)
    = zero1 := by
  after_reads_simp
  rfl

set_option maxRecDepth 100000 in
/-- A buffer after the first stretch. -/
theorem preA_v7_6 (V : Valuation τ sig (Elt F)) : after preA V (Proc.devRef .tc main_v7_6)
    = zero1 := by
  after_reads_simp
  rfl

set_option maxRecDepth 100000 in
/-- A buffer after the first stretch. -/
theorem preA_v1 (V : Valuation τ sig (Elt F)) : after preA V (Proc.devRef .tc main_v1)
    = addf (V (Proc.devRef .tc main_arg7)) (V (Proc.devRef .tc main_arg8)) := by
  after_reads_simp

set_option maxRecDepth 100000 in
/-- A buffer after the first stretch. -/
theorem preA_v2 (V : Valuation τ sig (Elt F)) : after preA V (Proc.devRef .tc main_v2)
    = addf (V (Proc.devRef .tc main_arg11)) (V (Proc.devRef .tc main_arg12)) := by
  after_reads_simp

set_option maxRecDepth 100000 in
/-- A buffer after the first stretch. -/
theorem preA_v3 (V : Valuation τ sig (Elt F)) : after preA V (Proc.devRef .tc main_v3)
    = addf (V (Proc.devRef .tc main_arg15)) (V (Proc.devRef .tc main_arg16)) := by
  after_reads_simp

set_option maxRecDepth 100000 in
/-- A buffer after the first stretch. -/
theorem preA_v5 (V : Valuation τ sig (Elt F)) : after preA V (Proc.devRef .tc main_v5)
    = seqIn (V (Proc.devRef .tc main_arg0)) := by
  after_reads_simp
  rfl

set_option maxRecDepth 100000 in
/-- A buffer after the first stretch. -/
theorem preA_v6 (V : Valuation τ sig (Elt F)) : after preA V (Proc.devRef .tc main_v6)
    = zero1 := by
  after_reads_simp
  rfl

set_option maxRecDepth 100000 in
/-- The column the first loop reads. -/
theorem fetch0_col (V : Valuation τ sig (Elt F)) : after fetch0 V (Proc.devRef .tc main_while0b_v146)
    = colAt (V (Proc.devRef .tc main_v7_0)) (V (Proc.devRef .tc main_v7_4)) := by
  after_reads_simp
  unfold colAt
  show (fun s => shapeCast S4096x1 (Host.dynamicSlice S1x4096x1 (V (Proc.devRef .tc main_v7_0)) s sliceFits_S256x4096x1_S1x4096x1) shapeCasts_S1x4096x1_S4096x1) _
    = (fun s => shapeCast S4096x1 (Host.dynamicSlice S1x4096x1 (V (Proc.devRef .tc main_v7_0)) s sliceFits_S256x4096x1_S1x4096x1) shapeCasts_S1x4096x1_S4096x1) _
  congr 1
  funext k
  fin_cases k
  · after_reads_simp
    rfl
  · after_reads_simp
    rfl
  · after_reads_simp
    rfl

set_option maxRecDepth 100000 in
/-- One step: the hidden state. -/
theorem fwd0_h (V : Valuation τ sig (Elt F)) : after fwd0 V (Proc.devRef .tc main_while0b_v182)
    = newH1 (gate1 (V (Proc.devRef .tc main_while0b_v146)) (V (Proc.devRef .tc main_v7_1)) (V (Proc.devRef .tc main_v7_5)) (V (Proc.devRef .tc main_v7_2)) (V (Proc.devRef .tc main_v7_3))) (newC1 (gate1 (V (Proc.devRef .tc main_while0b_v146)) (V (Proc.devRef .tc main_v7_1)) (V (Proc.devRef .tc main_v7_5)) (V (Proc.devRef .tc main_v7_2)) (V (Proc.devRef .tc main_v7_3))) (V (Proc.devRef .tc main_v7_6))) := by
  after_reads_simp
  rfl

set_option maxRecDepth 100000 in
/-- One step: the cell state. -/
theorem fwd0_c (V : Valuation τ sig (Elt F)) : after fwd0 V (Proc.devRef .tc main_while0b_v174)
    = newC1 (gate1 (V (Proc.devRef .tc main_while0b_v146)) (V (Proc.devRef .tc main_v7_1)) (V (Proc.devRef .tc main_v7_5)) (V (Proc.devRef .tc main_v7_2)) (V (Proc.devRef .tc main_v7_3))) (V (Proc.devRef .tc main_v7_6)) := by
  after_reads_simp
  rfl

set_option maxRecDepth 100000 in
/-- The hidden state is carried back. -/
theorem back0_h (V : Valuation τ sig (Elt F)) : after back0 V (Proc.devRef .tc main_v7_5)
    = (V (Proc.devRef .tc main_while0b_v182)) := by
  after_reads_simp
  rfl

set_option maxRecDepth 100000 in
/-- The cell state is carried back. -/
theorem back0_c (V : Valuation τ sig (Elt F)) : after back0 V (Proc.devRef .tc main_v7_6)
    = (V (Proc.devRef .tc main_while0b_v174)) := by
  after_reads_simp
  rfl

set_option maxRecDepth 100000 in
/-- The features of all nodes. -/
theorem bwd_feats (V : Valuation τ sig (Elt F)) : after bwdB (after bwdA V) (Proc.devRef .tc main_v47)
    = feats (V (Proc.devRef .tc main_v7_5)) (newH1 (gate1 (lastCol (V (Proc.devRef .tc main_v5))) (V (Proc.devRef .tc main_arg5)) (V (Proc.devRef .tc main_v6)) (V (Proc.devRef .tc main_arg6)) (V (Proc.devRef .tc main_v1))) (newC1 (gate1 (lastCol (V (Proc.devRef .tc main_v5))) (V (Proc.devRef .tc main_arg5)) (V (Proc.devRef .tc main_v6)) (V (Proc.devRef .tc main_arg6)) (V (Proc.devRef .tc main_v1))) (V (Proc.devRef .tc main_v6)))) := by
  after_reads_simp
  rfl

set_option maxRecDepth 100000 in
/-- The zero state. -/
theorem bwd_zero (V : Valuation τ sig (Elt F)) : after bwdB (after bwdA V) (Proc.devRef .tc main_v48)
    = zero2 := by
  after_reads_simp
  rfl

set_option maxRecDepth 100000 in
/-- The leaf's forward state. -/
theorem leafF_h (V : Valuation τ sig (Elt F)) : after leafF V (Proc.devRef .tc main_v86)
    = newH2 (gate2 (leafIn (V (Proc.devRef .tc main_v47))) (V (Proc.devRef .tc main_arg9)) (V (Proc.devRef .tc main_v48)) (V (Proc.devRef .tc main_arg10)) (V (Proc.devRef .tc main_v2))) (newC2 (gate2 (leafIn (V (Proc.devRef .tc main_v47))) (V (Proc.devRef .tc main_arg9)) (V (Proc.devRef .tc main_v48)) (V (Proc.devRef .tc main_arg10)) (V (Proc.devRef .tc main_v2))) (V (Proc.devRef .tc main_v48))) := by
  after_reads_simp
  rfl

set_option maxRecDepth 100000 in
/-- The leaf's features. -/
theorem leaf_f (V : Valuation τ sig (Elt F)) : after leafC (after leafB V) (Proc.devRef .tc main_v125)
    = cat2 (V (Proc.devRef .tc main_v86)) (newH2 (gate2 (leafIn (V (Proc.devRef .tc main_v47))) (V (Proc.devRef .tc main_arg13)) (V (Proc.devRef .tc main_v48)) (V (Proc.devRef .tc main_arg14)) (V (Proc.devRef .tc main_v3))) (newC2 (gate2 (leafIn (V (Proc.devRef .tc main_v47))) (V (Proc.devRef .tc main_arg13)) (V (Proc.devRef .tc main_v48)) (V (Proc.devRef .tc main_arg14)) (V (Proc.devRef .tc main_v3))) (V (Proc.devRef .tc main_v48)))) := by
  after_reads_simp
  rfl

set_option maxRecDepth 100000 in
/-- What the second loop carries. -/
theorem acts_0 (V : Valuation τ sig (Elt F)) : after acts V (Proc.devRef .tc main_v129_0)
    = others (V (Proc.devRef .tc main_v47)) := by
  after_reads_simp
  rfl

set_option maxRecDepth 100000 in
/-- What the second loop carries. -/
theorem acts_1 (V : Valuation τ sig (Elt F)) : after acts V (Proc.devRef .tc main_v129_1)
    = (V (Proc.devRef .tc main_arg9)) := by
  after_reads_simp
  rfl

set_option maxRecDepth 100000 in
/-- What the second loop carries. -/
theorem acts_2 (V : Valuation τ sig (Elt F)) : after acts V (Proc.devRef .tc main_v129_2)
    = (V (Proc.devRef .tc main_arg10)) := by
  after_reads_simp
  rfl

set_option maxRecDepth 100000 in
/-- What the second loop carries. -/
theorem acts_3 (V : Valuation τ sig (Elt F)) : after acts V (Proc.devRef .tc main_v129_3)
    = (V (Proc.devRef .tc main_v48)) := by
  after_reads_simp
  rfl

set_option maxRecDepth 100000 in
/-- What the second loop carries. -/
theorem acts_4 (V : Valuation τ sig (Elt F)) : after acts V (Proc.devRef .tc main_v129_4)
    = (V (Proc.devRef .tc main_v2)) := by
  after_reads_simp
  rfl

set_option maxRecDepth 100000 in
/-- What the second loop carries. -/
theorem acts_5 (V : Valuation τ sig (Elt F)) : after acts V (Proc.devRef .tc main_v129_5)
    = (V (Proc.devRef .tc main_arg13)) := by
  after_reads_simp
  rfl

set_option maxRecDepth 100000 in
/-- What the second loop carries. -/
theorem acts_6 (V : Valuation τ sig (Elt F)) : after acts V (Proc.devRef .tc main_v129_6)
    = (V (Proc.devRef .tc main_arg14)) := by
  after_reads_simp
  rfl

set_option maxRecDepth 100000 in
/-- What the second loop carries. -/
theorem acts_7 (V : Valuation τ sig (Elt F)) : after acts V (Proc.devRef .tc main_v129_7)
    = (V (Proc.devRef .tc main_v3)) := by
  after_reads_simp
  rfl

set_option maxRecDepth 100000 in
/-- What the second loop carries. -/
theorem acts_9 (V : Valuation τ sig (Elt F)) : after acts V (Proc.devRef .tc main_v129_9)
    = (V (Proc.devRef .tc main_v125)) := by
  after_reads_simp
  rfl

set_option maxRecDepth 100000 in
/-- The node the second loop reads. -/
theorem fetch1_node (V : Valuation τ sig (Elt F)) : after fetch1 V (Proc.devRef .tc main_while1b_v146)
    = nodeAt (V (Proc.devRef .tc main_v129_0)) (V (Proc.devRef .tc main_v129_8)) := by
  after_reads_simp
  unfold nodeAt
  show (fun s => shapeCast S64x64 (Host.dynamicSlice S1x64x64 (V (Proc.devRef .tc main_v129_0)) s sliceFits_S63x64x64_S1x64x64) shapeCasts_S1x64x64_S64x64) _
    = (fun s => shapeCast S64x64 (Host.dynamicSlice S1x64x64 (V (Proc.devRef .tc main_v129_0)) s sliceFits_S63x64x64_S1x64x64) shapeCasts_S1x64x64_S64x64) _
  congr 1
  funext k
  fin_cases k
  · after_reads_simp
    rfl
  · after_reads_simp
    rfl
  · after_reads_simp
    rfl

set_option maxRecDepth 100000 in
/-- The new node's hidden state. -/
theorem parA_h (V : Valuation τ sig (Elt F)) : after parA V (Proc.devRef .tc main_while1b_v182)
    = newH2 (gate2 (V (Proc.devRef .tc main_while1b_v146)) (V (Proc.devRef .tc main_v129_1)) (V (Proc.devRef .tc main_v129_3)) (V (Proc.devRef .tc main_v129_2)) (V (Proc.devRef .tc main_v129_4))) (newC2 (gate2 (V (Proc.devRef .tc main_while1b_v146)) (V (Proc.devRef .tc main_v129_1)) (V (Proc.devRef .tc main_v129_3)) (V (Proc.devRef .tc main_v129_2)) (V (Proc.devRef .tc main_v129_4))) (V (Proc.devRef .tc main_v129_3))) := by
  after_reads_simp
  rfl

set_option maxRecDepth 100000 in
/-- The new node's cell state. -/
theorem parA_c (V : Valuation τ sig (Elt F)) : after parA V (Proc.devRef .tc main_while1b_v174)
    = newC2 (gate2 (V (Proc.devRef .tc main_while1b_v146)) (V (Proc.devRef .tc main_v129_1)) (V (Proc.devRef .tc main_v129_3)) (V (Proc.devRef .tc main_v129_2)) (V (Proc.devRef .tc main_v129_4))) (V (Proc.devRef .tc main_v129_3)) := by
  after_reads_simp
  rfl

set_option maxRecDepth 100000 in
/-- The forward state above. -/
theorem par_h (V : Valuation τ sig (Elt F)) : after parC (after parB V) (Proc.devRef .tc main_while1b_v218)
    = newH2 (gate2 (V (Proc.devRef .tc main_v129_9)) (V (Proc.devRef .tc main_v129_1)) (V (Proc.devRef .tc main_while1b_v182)) (V (Proc.devRef .tc main_v129_2)) (V (Proc.devRef .tc main_v129_4))) (newC2 (gate2 (V (Proc.devRef .tc main_v129_9)) (V (Proc.devRef .tc main_v129_1)) (V (Proc.devRef .tc main_while1b_v182)) (V (Proc.devRef .tc main_v129_2)) (V (Proc.devRef .tc main_v129_4))) (V (Proc.devRef .tc main_while1b_v174))) := by
  after_reads_simp
  rfl

set_option maxRecDepth 100000 in
/-- The features above. -/
theorem par_f (V : Valuation τ sig (Elt F)) : after parE (after parD V) (Proc.devRef .tc main_while1b_v255)
    = cat2 (V (Proc.devRef .tc main_while1b_v218)) (newH2 (gate2 (V (Proc.devRef .tc main_v129_9)) (V (Proc.devRef .tc main_v129_5)) (V (Proc.devRef .tc main_v129_3)) (V (Proc.devRef .tc main_v129_6)) (V (Proc.devRef .tc main_v129_7))) (newC2 (gate2 (V (Proc.devRef .tc main_v129_9)) (V (Proc.devRef .tc main_v129_5)) (V (Proc.devRef .tc main_v129_3)) (V (Proc.devRef .tc main_v129_6)) (V (Proc.devRef .tc main_v129_7))) (V (Proc.devRef .tc main_v129_3)))) := by
  after_reads_simp
  rfl

set_option maxRecDepth 100000 in
/-- The features are carried back. -/
theorem back1_f (V : Valuation τ sig (Elt F)) : after back1 V (Proc.devRef .tc main_v129_9)
    = (V (Proc.devRef .tc main_while1b_v255)) := by
  after_reads_simp
  rfl

set_option maxRecDepth 100000 in
/-- The scores. -/
theorem out_l (V : Valuation τ sig (Elt F)) : after outA V (Proc.devRef .tc main_v134)
    = logits (V (Proc.devRef .tc main_v129_9)) (V (Proc.devRef .tc main_arg17)) (V (Proc.devRef .tc main_arg18)) := by
  after_reads_simp
  rfl

set_option maxRecDepth 100000 in
/-- The larger score. -/
theorem out_m (V : Valuation τ sig (Elt F)) : after outA V (Proc.devRef .tc main_v138)
    = rowMax (logits (V (Proc.devRef .tc main_v129_9)) (V (Proc.devRef .tc main_arg17)) (V (Proc.devRef .tc main_arg18))) := by
  after_reads_simp
  rfl

set_option maxRecDepth 100000 in
/-- The normalised exponentials. -/
theorem out_v (V : Valuation τ sig (Elt F)) : after outB V (Proc.devRef .tc main_v145)
    = normed (expo (V (Proc.devRef .tc main_v134)) (V (Proc.devRef .tc main_v138))) := by
  after_reads_simp
  rfl

end Cert.ReferenceIdeal.Two

end
-- ==== Proof.RefLane.lean ====
module
public import proofs.«01_k».proof.Proof.RefRead
public import Idealize.ShloMosaic.Lib.DynamicIndex

@[expose] public section

/-! The reference's array functions read at one lane. -/

set_option maxRecDepth 4000

noncomputable section

namespace Cert.ReferenceIdeal.Two
open Cert.ReferenceIdeal Cert.ReferenceIdeal.Gen Cert.Spec
open Idealize.ShloMosaic Idealize.ShloMosaic.TcCoe Idealize.ShloMosaic.Tactic Idealize.ShloMosaic.StableHlo

/-- The lane of node `m` of example `b`. -/
abbrev lane (b m : Fin 64) : Fin 4096 := ⟨b.1 * 64 + m.1, by omega⟩

/-- A lane of the input sequence. -/
theorem seqIn_at (a : Ar Ideal S64x64x256x1) (t : Fin 256) (b m : Fin 64) : seqIn a (ix3 t (lane b m) 0) = a (ix4 b m t 0) := by
  pointwise [seqIn]

/-- A zero. -/
theorem zero1_at (n : Fin 4096) (k : Fin 32) : zero1 (F := Ideal) (ix2 n k) = 0 := by pointwise [zero1]
/-- A zero. -/
theorem zero2_at (n : Fin 64) (k : Fin 32) : zero2 (F := Ideal) (ix2 n k) = 0 := by pointwise [zero2]

/-- A lane of the last column. -/
theorem lastCol_at (x : Ar Ideal S256x4096x1) (n : Fin 4096) : lastCol x (ix2 n 0) = x (ix3 255 n 0) := by
  pointwise [lastCol]

/-- The counter at trip `k` is `k`. -/
theorem iv_int (k : ℕ) (hk : k < 256) : (Scf.iv 0#32 1#32 k).toInt = (k : ℤ) := by
  rw [Scf.iv_eq_ofInt, BitVec.toInt_ofInt_eq_self (by decide) (by simp <;> omega) (by simp <;> omega)]
  simp

/-- A lane of the column at trip `k`. -/
theorem colAt_at (x : Ar Ideal S256x4096x1) (k : ℕ) (hk : k < 256) (n : Fin 4096) :
    colAt x (fun _ => Scf.iv 0#32 1#32 k) (ix2 n 0) = x (ix3 ⟨k, hk⟩ n 0) := by
  unfold colAt
  rw [Host.dynamicSlice_eq_extractStridedSlice S1x4096x1 x _ ![k, 0, 0] _
    ⟨rfl, fun a => by fin_cases a <;> simp [Shape.size] <;> omega⟩
    (fun a => by
      fin_cases a
      · exact iv_int k hk
      · rfl
      · rfl)]
  pointwise

/-- A lane of the node at trip `k`. -/
theorem nodeAt_at (x : Ar Ideal S63x64x64) (k : ℕ) (hk : k < 63) (b j : Fin 64) :
    nodeAt x (fun _ => Scf.iv 0#32 1#32 k) (ix2 b j) = x (ix3 ⟨k, hk⟩ b j) := by
  unfold nodeAt
  rw [Host.dynamicSlice_eq_extractStridedSlice S1x64x64 x _ ![k, 0, 0] _
    ⟨rfl, fun a => by fin_cases a <;> simp [Shape.size] <;> omega⟩
    (fun a => by
      fin_cases a
      · exact iv_int k (by omega)
      · rfl
      · rfl)]
  pointwise

/-- A lane of the features. -/
theorem feats_at (hf hb : Ar Ideal S4096x32) (b m j : Fin 64) :
    feats hf hb (ix3 b m j) = cat (fun k => hf (ix2 (lane b m) k)) (fun k => hb (ix2 (lane b m) k)) j := by
  unfold cat
  pointwise [feats]

/-- A lane of the leaf's features. -/
theorem leafIn_at (f : Ar Ideal S64x64x64) (b j : Fin 64) : leafIn f (ix2 b j) = f (ix3 b 63 j) := by
  pointwise [leafIn]

/-- A lane of the other nodes' features. -/
theorem others_at (f : Ar Ideal S64x64x64) (k : Fin 63) (b j : Fin 64) :
    others f (ix3 k b j) = f (ix3 b ⟨62 - k.1, by omega⟩ j) := by
  pointwise [others]
  refine congrArg f ?_
  simp only [List.mem_cons, List.not_mem_nil, or_false]
  refine congrArg₂ (fun (u : Fin 64) v => ix3 (b : Fin 64) u v) (Fin.ext ?_) ?_
  · show (Fin.rev k).val = 62 - k.1
    rw [Fin.val_rev]
    omega
  · rfl

/-- A lane of two states side by side. -/
theorem cat2_at (a b : Ar Ideal S64x32) (n j : Fin 64) :
    cat2 a b (ix2 n j) = cat (fun k => a (ix2 n k)) (fun k => b (ix2 n k)) j := by
  unfold cat
  pointwise [cat2]

/-- A score. -/
theorem logits_at (f : Ar Ideal S64x64) (w : Ar Ideal S2x64) (b : Ar Ideal S2) (n : Fin 64) (q : Fin 2) :
    logits f w b (ix2 n q) = (∑ j, f (ix2 n j) * w (ix2 q j)) + b (ix1 q) := by
  pointwise [logits]

/-- The larger of two scores. -/
theorem rowMax_at (l : Ar Ideal S64x2) (n : Fin 64) : rowMax l (ix2 n 0) = max (l (ix2 n 0)) (l (ix2 n 1)) := by
  pointwise [rowMax]
  have e : Ideal.ofBits .f32 4286578688#32 = (⊥ : EReal) := by simp [Ideal.ofBits, Ideal.ieee]
  rw [e, bot_sup_eq]
  simp [Fin.univ_succ]

/-- The exponential of a score less the larger one. -/
theorem expo_at (l : Ar Ideal S64x2) (mx : Ar Ideal S64x1) (n : Fin 64) (q : Fin 2) :
    expo l mx (ix2 n q) = Ideal.exp (l (ix2 n q) - mx (ix2 n 0)) := by
  pointwise [expo]

/-- An exponential over the sum of both. -/
theorem normed_at (e : Ar Ideal S64x2) (n : Fin 64) (q : Fin 2) :
    normed e (ix2 n q) = Ideal.div (e (ix2 n q)) (e (ix2 n 0) + e (ix2 n 1)) := by
  pointwise [normed]
  rw [Fin.sum_univ_two]

end Cert.ReferenceIdeal.Two

end
-- ==== Proof.RefTrip.lean ====
module
public import proofs.«01_k».proof.Proof.RefRun
public import proofs.«01_k».proof.Proof.RefLane

@[expose] public section

/-! The reference's loops read as the network's recurrences, lane by lane. -/

set_option maxRecDepth 4000

noncomputable section

namespace Cert.ReferenceIdeal.Two
open Cert.ReferenceIdeal Cert.ReferenceIdeal.Gen Cert.Spec
open Idealize.ShloMosaic Idealize.ShloMosaic.TcCoe Idealize.ShloMosaic.Tactic Idealize.ShloMosaic.StableHlo

section Steps
variable {F : FTy → Type} [FloatOps F] (Y : Valuation τ sig (Elt F))

/-- Buffers the first loop's condition and fetch leave alone. -/
theorem keepF0 (b : Ref sig .tc) (h : b ∉ cond0_W ++ fetch0_W) :
    after fetch0 (after cond0 Y) (Proc.devRef .tc b) = Y (Proc.devRef .tc b) := by
  simp only [List.mem_append, not_or] at h
  rw [after_of_writes_sub fetch0 _ fetch0_writes h.2, after_of_writes_sub cond0 _ cond0_writes h.1]

/-- One trip of the first loop: the hidden state. -/
theorem trip0_h : afterL bodyI0 (after cond0 Y) (Proc.devRef .tc main_v7_5) = newH1 (gate1 (colAt (Y (Proc.devRef .tc main_v7_0)) (Y (Proc.devRef .tc main_v7_4))) (Y (Proc.devRef .tc main_v7_1)) (Y (Proc.devRef .tc main_v7_5)) (Y (Proc.devRef .tc main_v7_2)) (Y (Proc.devRef .tc main_v7_3))) (newC1 (gate1 (colAt (Y (Proc.devRef .tc main_v7_0)) (Y (Proc.devRef .tc main_v7_4))) (Y (Proc.devRef .tc main_v7_1)) (Y (Proc.devRef .tc main_v7_5)) (Y (Proc.devRef .tc main_v7_2)) (Y (Proc.devRef .tc main_v7_3))) (Y (Proc.devRef .tc main_v7_6))) := by
  simp only [afterL_cons, afterL_nil]
  rw [back0_h, fwd0_h, fetch0_col]
  rw [after_of_writes_sub cond0 _ cond0_writes (r := main_v7_0) (by decide +kernel), after_of_writes_sub cond0 _ cond0_writes (r := main_v7_4) (by decide +kernel)]
  rw [keepF0 Y main_v7_1 (by decide +kernel)]; rw [keepF0 Y main_v7_5 (by decide +kernel)]; rw [keepF0 Y main_v7_2 (by decide +kernel)]; rw [keepF0 Y main_v7_3 (by decide +kernel)]; rw [keepF0 Y main_v7_6 (by decide +kernel)]

/-- One trip of the first loop: the cell state. -/
theorem trip0_c : afterL bodyI0 (after cond0 Y) (Proc.devRef .tc main_v7_6) = (newC1 (gate1 (colAt (Y (Proc.devRef .tc main_v7_0)) (Y (Proc.devRef .tc main_v7_4))) (Y (Proc.devRef .tc main_v7_1)) (Y (Proc.devRef .tc main_v7_5)) (Y (Proc.devRef .tc main_v7_2)) (Y (Proc.devRef .tc main_v7_3))) (Y (Proc.devRef .tc main_v7_6))) := by
  simp only [afterL_cons, afterL_nil]
  rw [back0_c, fwd0_c, fetch0_col]
  rw [after_of_writes_sub cond0 _ cond0_writes (r := main_v7_0) (by decide +kernel), after_of_writes_sub cond0 _ cond0_writes (r := main_v7_4) (by decide +kernel)]
  rw [keepF0 Y main_v7_1 (by decide +kernel)]; rw [keepF0 Y main_v7_5 (by decide +kernel)]; rw [keepF0 Y main_v7_2 (by decide +kernel)]; rw [keepF0 Y main_v7_3 (by decide +kernel)]; rw [keepF0 Y main_v7_6 (by decide +kernel)]

/-- Buffers the second loop's condition and fetch leave alone. -/
theorem keepF1 (b : Ref sig .tc) (h : b ∉ cond1_W ++ fetch1_W) :
    after fetch1 (after cond1 Y) (Proc.devRef .tc b) = Y (Proc.devRef .tc b) := by
  simp only [List.mem_append, not_or] at h
  rw [after_of_writes_sub fetch1 _ fetch1_writes h.2, after_of_writes_sub cond1 _ cond1_writes h.1]

/-- Buffers a node's first cell leaves alone. -/
theorem keepA1 (b : Ref sig .tc) (h : b ∉ (cond1_W ++ fetch1_W) ++ parA_W) :
    after parA (after fetch1 (after cond1 Y)) (Proc.devRef .tc b) = Y (Proc.devRef .tc b) := by
  rw [after_of_writes_sub parA _ parA_writes (fun hm => h (List.mem_append_right _ hm)), keepF1 Y b (fun hm => h (List.mem_append_left _ hm))]

/-- Buffers the two cells leave alone. -/
theorem keepC1 (b : Ref sig .tc) (h : b ∉ ((cond1_W ++ fetch1_W) ++ parA_W) ++ (parB_W ++ parC_W)) :
    after parC (after parB (after parA (after fetch1 (after cond1 Y)))) (Proc.devRef .tc b) = Y (Proc.devRef .tc b) := by
  rw [after_of_writes_sub parC _ parC_writes (fun hm => h (List.mem_append_right _ (List.mem_append_right _ hm))),
    after_of_writes_sub parB _ parB_writes (fun hm => h (List.mem_append_right _ (List.mem_append_left _ hm))),
    keepA1 Y b (fun hm => h (List.mem_append_left _ hm))]

/-- One trip of the second loop: the running features. -/
theorem trip1_f : afterL bodyI1 (after cond1 Y) (Proc.devRef .tc main_v129_9) = cat2 (newH2 (gate2 (Y (Proc.devRef .tc main_v129_9)) (Y (Proc.devRef .tc main_v129_1)) (newH2 (gate2 (nodeAt (Y (Proc.devRef .tc main_v129_0)) (Y (Proc.devRef .tc main_v129_8))) (Y (Proc.devRef .tc main_v129_1)) (Y (Proc.devRef .tc main_v129_3)) (Y (Proc.devRef .tc main_v129_2)) (Y (Proc.devRef .tc main_v129_4))) (newC2 (gate2 (nodeAt (Y (Proc.devRef .tc main_v129_0)) (Y (Proc.devRef .tc main_v129_8))) (Y (Proc.devRef .tc main_v129_1)) (Y (Proc.devRef .tc main_v129_3)) (Y (Proc.devRef .tc main_v129_2)) (Y (Proc.devRef .tc main_v129_4))) (Y (Proc.devRef .tc main_v129_3)))) (Y (Proc.devRef .tc main_v129_2)) (Y (Proc.devRef .tc main_v129_4))) (newC2 (gate2 (Y (Proc.devRef .tc main_v129_9)) (Y (Proc.devRef .tc main_v129_1)) (newH2 (gate2 (nodeAt (Y (Proc.devRef .tc main_v129_0)) (Y (Proc.devRef .tc main_v129_8))) (Y (Proc.devRef .tc main_v129_1)) (Y (Proc.devRef .tc main_v129_3)) (Y (Proc.devRef .tc main_v129_2)) (Y (Proc.devRef .tc main_v129_4))) (newC2 (gate2 (nodeAt (Y (Proc.devRef .tc main_v129_0)) (Y (Proc.devRef .tc main_v129_8))) (Y (Proc.devRef .tc main_v129_1)) (Y (Proc.devRef .tc main_v129_3)) (Y (Proc.devRef .tc main_v129_2)) (Y (Proc.devRef .tc main_v129_4))) (Y (Proc.devRef .tc main_v129_3)))) (Y (Proc.devRef .tc main_v129_2)) (Y (Proc.devRef .tc main_v129_4))) (newC2 (gate2 (nodeAt (Y (Proc.devRef .tc main_v129_0)) (Y (Proc.devRef .tc main_v129_8))) (Y (Proc.devRef .tc main_v129_1)) (Y (Proc.devRef .tc main_v129_3)) (Y (Proc.devRef .tc main_v129_2)) (Y (Proc.devRef .tc main_v129_4))) (Y (Proc.devRef .tc main_v129_3))))) (newH2 (gate2 (Y (Proc.devRef .tc main_v129_9)) (Y (Proc.devRef .tc main_v129_5)) (Y (Proc.devRef .tc main_v129_3)) (Y (Proc.devRef .tc main_v129_6)) (Y (Proc.devRef .tc main_v129_7))) (newC2 (gate2 (Y (Proc.devRef .tc main_v129_9)) (Y (Proc.devRef .tc main_v129_5)) (Y (Proc.devRef .tc main_v129_3)) (Y (Proc.devRef .tc main_v129_6)) (Y (Proc.devRef .tc main_v129_7))) (Y (Proc.devRef .tc main_v129_3)))) := by
  simp only [afterL_cons, afterL_nil]
  rw [back1_f, par_f, par_h]
  rw [keepC1 Y main_v129_9 (by decide +kernel)]; rw [keepC1 Y main_v129_5 (by decide +kernel)]; rw [keepC1 Y main_v129_3 (by decide +kernel)]; rw [keepC1 Y main_v129_6 (by decide +kernel)]; rw [keepC1 Y main_v129_7 (by decide +kernel)]
  rw [keepA1 Y main_v129_9 (by decide +kernel)]; rw [keepA1 Y main_v129_1 (by decide +kernel)]; rw [keepA1 Y main_v129_2 (by decide +kernel)]; rw [keepA1 Y main_v129_4 (by decide +kernel)]
  rw [parA_h, parA_c, fetch1_node]
  rw [keepF1 Y main_v129_1 (by decide +kernel)]; rw [keepF1 Y main_v129_3 (by decide +kernel)]; rw [keepF1 Y main_v129_2 (by decide +kernel)]; rw [keepF1 Y main_v129_4 (by decide +kernel)]
  rw [after_of_writes_sub cond1 _ cond1_writes (r := main_v129_0) (by decide +kernel), after_of_writes_sub cond1 _ cond1_writes (r := main_v129_8) (by decide +kernel)]

end Steps

section Value
variable (m : (ℓ : Loc nD τ sig) → Buf (Elt Ideal) ℓ) (c : Dev nD)

/-- An argument's contents at launch. -/
abbrev arg (b : Ref sig .tc) : Buf (Elt Ideal) ((c : Thread nD τ).loc b) := m ((c : Thread nD τ).loc b)

/-- The sum of two vectors. -/
abbrev plus (a b : Vec 128) : Vec 128 := fun r => a r + b r

/-- The network's weights, from the arguments. -/
def wts : Weights where
  wihf := fun r => (arg m c main_arg1 : Ar Ideal S128x1) (ix2 r 0)
  whhf := fun r k => (arg m c main_arg2 : Ar Ideal S128x32) (ix2 r k)
  bf := plus (fun r => (arg m c main_arg3 : Ar Ideal S128) (ix1 r)) (fun r => (arg m c main_arg4 : Ar Ideal S128) (ix1 r))
  wihb := fun r => (arg m c main_arg5 : Ar Ideal S128x1) (ix2 r 0)
  whhb := fun r k => (arg m c main_arg6 : Ar Ideal S128x32) (ix2 r k)
  bb := plus (fun r => (arg m c main_arg7 : Ar Ideal S128) (ix1 r)) (fun r => (arg m c main_arg8 : Ar Ideal S128) (ix1 r))
  wihf2 := fun r j => (arg m c main_arg9 : Ar Ideal S128x64) (ix2 r j)
  whhf2 := fun r k => (arg m c main_arg10 : Ar Ideal S128x32) (ix2 r k)
  bf2 := plus (fun r => (arg m c main_arg11 : Ar Ideal S128) (ix1 r)) (fun r => (arg m c main_arg12 : Ar Ideal S128) (ix1 r))
  wihb2 := fun r j => (arg m c main_arg13 : Ar Ideal S128x64) (ix2 r j)
  whhb2 := fun r k => (arg m c main_arg14 : Ar Ideal S128x32) (ix2 r k)
  bb2 := plus (fun r => (arg m c main_arg15 : Ar Ideal S128) (ix1 r)) (fun r => (arg m c main_arg16 : Ar Ideal S128) (ix1 r))
  wl := fun q j => (arg m c main_arg17 : Ar Ideal S2x64) (ix2 q j)
  bl := fun q => (arg m c main_arg18 : Ar Ideal S2) (ix1 q)

/-- The input sequence of node `n` of example `b`. -/
def seqs (b n : Fin 64) (t : ℕ) : EReal :=
  if h : t < 256 then (arg m c main_arg0 : Ar Ideal S64x64x256x1) (ix4 b n ⟨t, h⟩ 0) else 0

/-- The first loop's state is the forward recurrence. -/
theorem at0_lane (b n : Fin 64) : ∀ k, k ≤ 256 →
    ((fun i => (at0 m k c (Proc.devRef .tc main_v7_5) : Ar Ideal S4096x32) (ix2 (lane b n) i)) = (scan (wts m c).wihf (wts m c).whhf (wts m c).bf (seqs m c b n) k).1)
    ∧ ((fun i => (at0 m k c (Proc.devRef .tc main_v7_6) : Ar Ideal S4096x32) (ix2 (lane b n) i)) = (scan (wts m c).wihf (wts m c).whhf (wts m c).bf (seqs m c b n) k).2)
  | 0, _ => by
    rw [show at0 m 0 c = afterL preI (launchContents m c) from rfl]
    simp only [afterL_cons, afterL_nil]
    rw [preA_v7_5, preA_v7_6]
    exact ⟨funext fun i => zero1_at _ _, funext fun i => zero1_at _ _⟩
  | k + 1, hk => by
    obtain ⟨hh, hc⟩ := at0_lane b n k (by omega)
    have e0 := at0_keep m c main_v7_0 (by decide +kernel) k
    have e1 := at0_keep m c main_v7_1 (by decide +kernel) k
    have e2 := at0_keep m c main_v7_2 (by decide +kernel) k
    have e3 := at0_keep m c main_v7_3 (by decide +kernel) k
    rw [show entryContents preI m c = after preA (launchContents m c) from rfl] at e0 e1 e2 e3
    rw [preA_v7_0] at e0
    rw [preA_v7_1] at e1
    rw [preA_v7_2] at e2
    rw [preA_v7_3] at e3
    have hx : colAt (at0 m k c (Proc.devRef .tc main_v7_0)) (at0 m k c (Proc.devRef .tc main_v7_4)) (ix2 (lane b n) 0) = seqs m c b n k := by
      rw [at0_ctr, e0]
      refine (colAt_at _ k (by omega) _).trans ((seqIn_at _ _ b n).trans ?_)
      unfold seqs
      rw [dif_pos (show k < 256 by omega)]
    have hg : ∀ r, (gate1 (colAt (at0 m k c (Proc.devRef .tc main_v7_0)) (at0 m k c (Proc.devRef .tc main_v7_4))) (at0 m k c (Proc.devRef .tc main_v7_1)) (at0 m k c (Proc.devRef .tc main_v7_5)) (at0 m k c (Proc.devRef .tc main_v7_2)) (at0 m k c (Proc.devRef .tc main_v7_3))) (ix2 (lane b n) r)
        = gates1 (wts m c).wihf (wts m c).whhf (wts m c).bf (seqs m c b n k) (scan (wts m c).wihf (wts m c).whhf (wts m c).bf (seqs m c b n) k).1 r := by
      intro r
      rw [gate1_at, hx, e1, e2, e3, hh]
      rfl
    have hc' : (fun i => (newC1 (gate1 (colAt (at0 m k c (Proc.devRef .tc main_v7_0)) (at0 m k c (Proc.devRef .tc main_v7_4))) (at0 m k c (Proc.devRef .tc main_v7_1)) (at0 m k c (Proc.devRef .tc main_v7_5)) (at0 m k c (Proc.devRef .tc main_v7_2)) (at0 m k c (Proc.devRef .tc main_v7_3))) (at0 m k c (Proc.devRef .tc main_v7_6))) (ix2 (lane b n) i))
        = (scan (wts m c).wihf (wts m c).whhf (wts m c).bf (seqs m c b n) (k + 1)).2 := by
      funext i
      rw [newC1_at, hc, funext hg]
      rfl
    rw [show at0 m (k + 1) c = afterL bodyI0 (after cond0 (at0 m k c)) from rfl, trip0_h, trip0_c]
    refine ⟨?_, hc'⟩
    funext i
    rw [newH1_at, hc', funext hg]
    rfl

end Value

end Cert.ReferenceIdeal.Two

end
-- ==== Proof.RefValue.lean ====
module
public import proofs.«01_k».proof.Proof.RefTrip

@[expose] public section

/-! What the reference returns, lane by lane. -/

set_option maxRecDepth 4000

noncomputable section

namespace Cert.ReferenceIdeal.Two
open Cert.ReferenceIdeal Cert.ReferenceIdeal.Gen Cert.Spec
open Idealize.ShloMosaic Idealize.ShloMosaic.TcCoe Idealize.ShloMosaic.Tactic Idealize.ShloMosaic.StableHlo

/-- The sum of two bias vectors. -/
abbrev biasSum {F : FTy → Type} [FloatOps F] (a b : Ar F S128) : Ar F S128 := addf a b

section Leaves
variable {F : FTy → Type} [FloatOps F] (Z : Valuation τ sig (Elt F))

/-- Buffers the leaf's cells leave alone. -/
theorem keepL (b : Ref sig .tc) (h : b ∉ leafF_W ++ (leafB_W ++ leafC_W)) :
    after leafC (after leafB (after leafF Z)) (Proc.devRef .tc b) = Z (Proc.devRef .tc b) := by
  simp only [List.mem_append, not_or] at h
  rw [after_of_writes_sub leafC _ leafC_writes h.2.2, after_of_writes_sub leafB _ leafB_writes h.2.1, after_of_writes_sub leafF _ leafF_writes h.1]

/-- Buffers the backward step leaves alone. -/
theorem keepB (b : Ref sig .tc) (h : b ∉ bwdA_W ++ bwdB_W) :
    after bwdB (after bwdA Z) (Proc.devRef .tc b) = Z (Proc.devRef .tc b) := by
  simp only [List.mem_append, not_or] at h
  rw [after_of_writes_sub bwdB _ bwdB_writes h.2, after_of_writes_sub bwdA _ bwdA_writes h.1]

/-- The leaf's features, from the node features. -/
theorem leaf_all : after leafC (after leafB (after leafF Z)) (Proc.devRef .tc main_v125) = cat2 (newH2 (gate2 (leafIn (Z (Proc.devRef .tc main_v47))) (Z (Proc.devRef .tc main_arg9)) (Z (Proc.devRef .tc main_v48)) (Z (Proc.devRef .tc main_arg10)) (Z (Proc.devRef .tc main_v2))) (newC2 (gate2 (leafIn (Z (Proc.devRef .tc main_v47))) (Z (Proc.devRef .tc main_arg9)) (Z (Proc.devRef .tc main_v48)) (Z (Proc.devRef .tc main_arg10)) (Z (Proc.devRef .tc main_v2))) (Z (Proc.devRef .tc main_v48)))) (newH2 (gate2 (leafIn (Z (Proc.devRef .tc main_v47))) (Z (Proc.devRef .tc main_arg13)) (Z (Proc.devRef .tc main_v48)) (Z (Proc.devRef .tc main_arg14)) (Z (Proc.devRef .tc main_v3))) (newC2 (gate2 (leafIn (Z (Proc.devRef .tc main_v47))) (Z (Proc.devRef .tc main_arg13)) (Z (Proc.devRef .tc main_v48)) (Z (Proc.devRef .tc main_arg14)) (Z (Proc.devRef .tc main_v3))) (Z (Proc.devRef .tc main_v48)))) := by
  rw [leaf_f, leafF_h]
  rw [after_of_writes_sub leafF _ leafF_writes (r := main_v47) (by decide +kernel)]; rw [after_of_writes_sub leafF _ leafF_writes (r := main_arg13) (by decide +kernel)]; rw [after_of_writes_sub leafF _ leafF_writes (r := main_v48) (by decide +kernel)]; rw [after_of_writes_sub leafF _ leafF_writes (r := main_arg14) (by decide +kernel)]; rw [after_of_writes_sub leafF _ leafF_writes (r := main_v3) (by decide +kernel)]

end Leaves

section Value
variable (m : (ℓ : Loc nD τ sig) → Buf (Elt Ideal) ℓ) (c : Dev nD)

/-- The contents after the first loop. -/
abbrev end0 : Valuation τ sig (Elt Ideal) := after cond0 (at0 m 256 c)
/-- The contents after the backward step. -/
abbrev endB : Valuation τ sig (Elt Ideal) := after bwdB (after bwdA (end0 m c))

/-- A buffer the first loop leaves alone. -/
theorem end0_keep (b : Ref sig .tc) (h : b ∉ cond0_W ++ (fetch0_W ++ fwd0_W ++ back0_W)) :
    end0 m c (Proc.devRef .tc b) = after preA (launchContents m c) (Proc.devRef .tc b) := by
  rw [end0, after_of_writes_sub cond0 _ cond0_writes (fun hm => h (List.mem_append_left _ hm)), at0_keep m c b h]
  rfl

/-- An argument is unchanged after the first loop. -/
theorem end0_arg (b : Ref sig .tc) (h : b ∉ cond0_W ++ (fetch0_W ++ fwd0_W ++ back0_W)) (h' : b ∉ preA_W) :
    end0 m c (Proc.devRef .tc b) = launchContents m c (Proc.devRef .tc b) := by
  rw [end0_keep m c b h, after_of_writes_sub preA _ preA_writes h']

/-- The features of a node. -/
def nodes (b : Fin 64) (n : ℕ) : Vec 64 := feat (wts m c) (seqs m c b ⟨n % 64, Nat.mod_lt _ (by decide)⟩)

/-- The node features of the program are the network's. -/
theorem feats_lane (b n j : Fin 64) : (endB m c (Proc.devRef .tc main_v47) : Ar Ideal S64x64x64) (ix3 b n j) = feat (wts m c) (seqs m c b n) j := by
  have h5 : end0 m c (Proc.devRef .tc main_v7_5) = at0 m 256 c (Proc.devRef .tc main_v7_5) :=
    after_of_writes_sub cond0 _ cond0_writes (by decide +kernel)
  have hx : lastCol (end0 m c (Proc.devRef .tc main_v5)) (ix2 (lane b n) 0) = seqs m c b n 255 := by
    rw [end0_keep m c main_v5 (by decide +kernel), preA_v5, lastCol_at, seqIn_at]
    unfold seqs
    rw [dif_pos (show 255 < 256 by omega)]
    rfl
  have hz : ∀ k, (end0 m c (Proc.devRef .tc main_v6) : Ar Ideal S4096x32) (ix2 (lane b n) k) = (0 : EReal) := fun k => by
    rw [end0_keep m c main_v6 (by decide +kernel), preA_v6]
    exact zero1_at _ _
  have hg : ∀ r, gate1 (lastCol (end0 m c (Proc.devRef .tc main_v5))) (end0 m c (Proc.devRef .tc main_arg5)) (end0 m c (Proc.devRef .tc main_v6)) (end0 m c (Proc.devRef .tc main_arg6)) (end0 m c (Proc.devRef .tc main_v1)) (ix2 (lane b n) r)
      = gates1 (wts m c).wihb (wts m c).whhb (wts m c).bb (seqs m c b n 255) s0.1 r := by
    intro r
    rw [gate1_at, hx, funext hz, end0_arg m c main_arg5 (by decide +kernel) (by decide +kernel),
      end0_arg m c main_arg6 (by decide +kernel) (by decide +kernel), end0_keep m c main_v1 (by decide +kernel), preA_v1]
    rfl
  rw [endB, bwd_feats, h5]
  refine (feats_at _ _ b n j).trans ?_
  unfold feat
  rw [(at0_lane m c b n 256 le_rfl).1]
  refine congrArg (fun u => cat _ u j) (funext fun k => ?_)
  rw [newH1_at, funext hg, funext fun k => newC1_at _ _ (lane b n) k, funext hg, funext hz]
  rfl

/-- The zero state of the second level. -/
theorem zero_lane (b : Fin 64) (k : Fin 32) : (endB m c (Proc.devRef .tc main_v48) : Ar Ideal S64x32) (ix2 b k) = (0 : EReal) := by
  rw [endB, bwd_zero]
  exact zero2_at _ _

/-- An argument is unchanged after the backward step. -/
theorem endB_arg (b : Ref sig .tc) (h : b ∉ cond0_W ++ (fetch0_W ++ fwd0_W ++ back0_W)) (h' : b ∉ preA_W) (h'' : b ∉ bwdA_W ++ bwdB_W) :
    endB m c (Proc.devRef .tc b) = launchContents m c (Proc.devRef .tc b) := by
  rw [endB, keepB _ b h'', end0_arg m c b h h']

/-- The second forward bias. -/
theorem endB_v2 : endB m c (Proc.devRef .tc main_v2) = biasSum (launchContents m c (Proc.devRef .tc main_arg11)) (launchContents m c (Proc.devRef .tc main_arg12)) := by
  rw [endB, keepB _ main_v2 (by decide +kernel), end0_keep m c main_v2 (by decide +kernel), preA_v2]
/-- The second backward bias. -/
theorem endB_v3 : endB m c (Proc.devRef .tc main_v3) = biasSum (launchContents m c (Proc.devRef .tc main_arg15)) (launchContents m c (Proc.devRef .tc main_arg16)) := by
  rw [endB, keepB _ main_v3 (by decide +kernel), end0_keep m c main_v3 (by decide +kernel), preA_v3]

/-- The forward gates of the second level on one lane. -/
theorem gateF_lane (x : Ar Ideal S64x64) (h : Ar Ideal S64x32) (b : Fin 64) (r : Fin 128) :
    gate2 x (launchContents m c (Proc.devRef .tc main_arg9)) h (launchContents m c (Proc.devRef .tc main_arg10)) (biasSum (launchContents m c (Proc.devRef .tc main_arg11)) (launchContents m c (Proc.devRef .tc main_arg12))) (ix2 b r)
      = gates2 (wts m c).wihf2 (wts m c).whhf2 (wts m c).bf2 (fun j => x (ix2 b j)) (fun k => h (ix2 b k)) r := by
  rw [gate2_at]
  rfl
/-- The backward gates of the second level on one lane. -/
theorem gateB_lane (x : Ar Ideal S64x64) (h : Ar Ideal S64x32) (b : Fin 64) (r : Fin 128) :
    gate2 x (launchContents m c (Proc.devRef .tc main_arg13)) h (launchContents m c (Proc.devRef .tc main_arg14)) (biasSum (launchContents m c (Proc.devRef .tc main_arg15)) (launchContents m c (Proc.devRef .tc main_arg16))) (ix2 b r)
      = gates2 (wts m c).wihb2 (wts m c).whhb2 (wts m c).bb2 (fun j => x (ix2 b j)) (fun k => h (ix2 b k)) r := by
  rw [gate2_at]
  rfl

/-- A cell's step on one lane, from its gates on that lane. -/
theorem cell_lane (g : Ar Ideal S64x128) (h c' : Ar Ideal S64x32) (b : Fin 64) (G : Vec 32 → Vec 128) (s : Vec 32 × Vec 32)
    (hg : ∀ r, g (ix2 b r) = G (fun k => h (ix2 b k)) r) (hh : (fun k => h (ix2 b k)) = s.1) (hc : (fun k => c' (ix2 b k)) = s.2) :
    (fun k => newH2 g (newC2 g c') (ix2 b k)) = (step G s).1 ∧ (fun k => newC2 g c' (ix2 b k)) = (step G s).2 := by
  have h2 : (fun k => newC2 g c' (ix2 b k)) = (step G s).2 := by
    funext k
    rw [newC2_at, funext hg, hh, hc]
    rfl
  refine ⟨?_, h2⟩
  funext k
  rw [newH2_at, h2, funext hg, hh]
  rfl

/-- The leaf's features of the program are the network's. -/
theorem leaf_lane (b j : Fin 64) : (mid0 m c (Proc.devRef .tc main_v129_9) : Ar Ideal S64x64) (ix2 b j)
    = leaf (wts m c) (nodes m c b 63) j := by
  have hx : (fun j => leafIn (endB m c (Proc.devRef .tc main_v47)) (ix2 b j)) = nodes m c b 63 := by
    funext j
    rw [leafIn_at]
    exact feats_lane m c b 63 j
  have hz : (fun k => (endB m c (Proc.devRef .tc main_v48) : Ar Ideal S64x32) (ix2 b k)) = s0.1 := funext fun k => zero_lane m c b k
  rw [show mid0 m c = after acts (after leafC (after leafB (after leafF (endB m c)))) from rfl, acts_9, leaf_all,
    endB_v2, endB_v3, endB_arg m c main_arg9 (by decide +kernel) (by decide +kernel) (by decide +kernel),
    endB_arg m c main_arg10 (by decide +kernel) (by decide +kernel) (by decide +kernel),
    endB_arg m c main_arg13 (by decide +kernel) (by decide +kernel) (by decide +kernel),
    endB_arg m c main_arg14 (by decide +kernel) (by decide +kernel) (by decide +kernel)]
  refine (cat2_at _ _ b j).trans ?_
  unfold leaf
  rw [(cell_lane _ _ _ b (gates2 (wts m c).wihf2 (wts m c).whhf2 (wts m c).bf2 (nodes m c b 63)) s0
      (fun r => by rw [gateF_lane, hx]) hz hz).1,
    (cell_lane _ _ _ b (gates2 (wts m c).wihb2 (wts m c).whhb2 (wts m c).bb2 (nodes m c b 63)) s0
      (fun r => by rw [gateB_lane, hx]) hz hz).1]

/-- What the second loop does not write, before every trip. -/
theorem at1_const (k : ℕ) :
    at1 m k c (Proc.devRef .tc main_v129_0) = others (endB m c (Proc.devRef .tc main_v47))
    ∧ at1 m k c (Proc.devRef .tc main_v129_1) = launchContents m c (Proc.devRef .tc main_arg9)
    ∧ at1 m k c (Proc.devRef .tc main_v129_2) = launchContents m c (Proc.devRef .tc main_arg10)
    ∧ at1 m k c (Proc.devRef .tc main_v129_3) = endB m c (Proc.devRef .tc main_v48)
    ∧ at1 m k c (Proc.devRef .tc main_v129_4) = biasSum (launchContents m c (Proc.devRef .tc main_arg11)) (launchContents m c (Proc.devRef .tc main_arg12))
    ∧ at1 m k c (Proc.devRef .tc main_v129_5) = launchContents m c (Proc.devRef .tc main_arg13)
    ∧ at1 m k c (Proc.devRef .tc main_v129_6) = launchContents m c (Proc.devRef .tc main_arg14)
    ∧ at1 m k c (Proc.devRef .tc main_v129_7) = biasSum (launchContents m c (Proc.devRef .tc main_arg15)) (launchContents m c (Proc.devRef .tc main_arg16)) := by
  have e : mid0 m c = after acts (after leafC (after leafB (after leafF (endB m c)))) := rfl
  refine ⟨?_, ?_, ?_, ?_, ?_, ?_, ?_, ?_⟩
  · rw [at1_keep m c main_v129_0 (by decide +kernel) k, e, acts_0, keepL _ main_v47 (by decide +kernel)]
  · rw [at1_keep m c main_v129_1 (by decide +kernel) k, e, acts_1, keepL _ main_arg9 (by decide +kernel), endB_arg m c main_arg9 (by decide +kernel) (by decide +kernel) (by decide +kernel)]
  · rw [at1_keep m c main_v129_2 (by decide +kernel) k, e, acts_2, keepL _ main_arg10 (by decide +kernel), endB_arg m c main_arg10 (by decide +kernel) (by decide +kernel) (by decide +kernel)]
  · rw [at1_keep m c main_v129_3 (by decide +kernel) k, e, acts_3, keepL _ main_v48 (by decide +kernel)]
  · rw [at1_keep m c main_v129_4 (by decide +kernel) k, e, acts_4, keepL _ main_v2 (by decide +kernel), endB_v2]
  · rw [at1_keep m c main_v129_5 (by decide +kernel) k, e, acts_5, keepL _ main_arg13 (by decide +kernel), endB_arg m c main_arg13 (by decide +kernel) (by decide +kernel) (by decide +kernel)]
  · rw [at1_keep m c main_v129_6 (by decide +kernel) k, e, acts_6, keepL _ main_arg14 (by decide +kernel), endB_arg m c main_arg14 (by decide +kernel) (by decide +kernel) (by decide +kernel)]
  · rw [at1_keep m c main_v129_7 (by decide +kernel) k, e, acts_7, keepL _ main_v3 (by decide +kernel), endB_v3]

/-- The running features of the program are the network's. -/
theorem at1_lane (b : Fin 64) : ∀ k, k ≤ 63 → (fun j => (at1 m k c (Proc.devRef .tc main_v129_9) : Ar Ideal S64x64) (ix2 b j))
    = climb (wts m c) (fun k => nodes m c b (62 - k)) (leaf (wts m c) (nodes m c b 63)) k
  | 0, _ => funext fun j => leaf_lane m c b j
  | k + 1, hk => by
    have ih := at1_lane b k (by omega)
    obtain ⟨e0, e1, e2, e3, e4, e5, e6, e7⟩ := at1_const m c k
    have hz : (fun k => (endB m c (Proc.devRef .tc main_v48) : Ar Ideal S64x32) (ix2 b k)) = s0.1 := funext fun k => zero_lane m c b k
    have hx : (fun j => nodeAt (others (endB m c (Proc.devRef .tc main_v47))) (fun _ => Scf.iv 0#32 1#32 k) (ix2 b j)) = nodes m c b (62 - k) := by
      funext j
      refine (nodeAt_at _ k (by omega) b j).trans ((others_at _ _ b j).trans ((feats_lane m c b _ j).trans ?_))
      unfold nodes
      have e : (⟨62 - k, by omega⟩ : Fin 64) = ⟨(62 - k) % 64, Nat.mod_lt _ (by decide)⟩ := Fin.ext (by simp only; omega)
      exact congrArg (fun i => feat (wts m c) (seqs m c b i) j) e
    rw [show at1 m (k + 1) c = afterL bodyI1 (after cond1 (at1 m k c)) from rfl, trip1_f, at1_ctr, e0, e1, e2, e3, e4, e5, e6, e7]
    funext j
    refine (cat2_at _ _ b j).trans ?_
    have hA := cell_lane _ (endB m c (Proc.devRef .tc main_v48)) (endB m c (Proc.devRef .tc main_v48)) b
      (gates2 (wts m c).wihf2 (wts m c).whhf2 (wts m c).bf2 (nodes m c b (62 - k))) s0
      (fun r => (gateF_lane m c _ _ b r).trans (by rw [hx])) hz hz
    have hP := cell_lane _ _ _ b
      (gates2 (wts m c).wihf2 (wts m c).whhf2 (wts m c).bf2 (fun j => (at1 m k c (Proc.devRef .tc main_v129_9) : Ar Ideal S64x64) (ix2 b j))) _
      (fun r => gateF_lane m c _ _ b r) hA.1 hA.2
    have hB := cell_lane _ (endB m c (Proc.devRef .tc main_v48)) (endB m c (Proc.devRef .tc main_v48)) b
      (gates2 (wts m c).wihb2 (wts m c).whhb2 (wts m c).bb2 (fun j => (at1 m k c (Proc.devRef .tc main_v129_9) : Ar Ideal S64x64) (ix2 b j))) s0
      (fun r => gateB_lane m c _ _ b r) hz hz
    rw [ih] at hP hB
    exact congrArg₂ (fun u v => cat u v j) hP.1 hB.1

/-- The reference's result on one lane. -/
theorem refOut_at (b : Fin 64) (q : Fin 2) : (refOut m c : Ar Ideal S64x2) (ix2 b q) = net (wts m c) (nodes m c b) q := by
  have ih := at1_lane m c b 63 le_rfl
  have a : ∀ r : Ref sig .tc, r ∉ (cond1_W ++ (fetch1_W ++ parA_W ++ parB_W ++ parC_W ++ parD_W ++ parE_W ++ back1_W)) ++ (acts_W ++ (leafF_W ++ (leafB_W ++ leafC_W))) →
      r ∉ cond0_W ++ (fetch0_W ++ fwd0_W ++ back0_W) → r ∉ preA_W → r ∉ bwdA_W ++ bwdB_W →
      after cond1 (at1 m 63 c) (Proc.devRef .tc r) = launchContents m c (Proc.devRef .tc r) := by
    intro r h1 h2 h3 h4
    rw [after_of_writes_sub cond1 _ cond1_writes (fun hm => h1 (List.mem_append_left _ (List.mem_append_left _ hm))),
      at1_keep m c r (fun hm => h1 (List.mem_append_left _ hm)),
      show mid0 m c = after acts (after leafC (after leafB (after leafF (endB m c)))) from rfl,
      after_of_writes_sub acts _ acts_writes (fun hm => h1 (List.mem_append_right _ (List.mem_append_left _ hm))),
      keepL _ r (fun hm => h1 (List.mem_append_right _ (List.mem_append_right _ hm))), endB_arg m c r h2 h3 h4]
  have hl : ∀ q, logits (after cond1 (at1 m 63 c) (Proc.devRef .tc main_v129_9)) (after cond1 (at1 m 63 c) (Proc.devRef .tc main_arg17)) (after cond1 (at1 m 63 c) (Proc.devRef .tc main_arg18)) (ix2 b q)
      = score (wts m c) (climb (wts m c) (fun k => nodes m c b (62 - k)) (leaf (wts m c) (nodes m c b 63)) 63) q := by
    intro q
    rw [logits_at, a main_arg17 (by decide +kernel) (by decide +kernel) (by decide +kernel) (by decide +kernel),
      a main_arg18 (by decide +kernel) (by decide +kernel) (by decide +kernel) (by decide +kernel),
      after_of_writes_sub cond1 _ cond1_writes (r := main_v129_9) (by decide +kernel), ← ih]
    rfl
  have hm : ∀ q, expo (after outA (after cond1 (at1 m 63 c)) (Proc.devRef .tc main_v134)) (after outA (after cond1 (at1 m 63 c)) (Proc.devRef .tc main_v138)) (ix2 b q)
      = Ideal.exp (score (wts m c) (climb (wts m c) (fun k => nodes m c b (62 - k)) (leaf (wts m c) (nodes m c b 63)) 63) q
        - max (score (wts m c) (climb (wts m c) (fun k => nodes m c b (62 - k)) (leaf (wts m c) (nodes m c b 63)) 63) 0)
            (score (wts m c) (climb (wts m c) (fun k => nodes m c b (62 - k)) (leaf (wts m c) (nodes m c b 63)) 63) 1)) := by
    intro q
    rw [out_l, out_m, expo_at, rowMax_at, hl, hl, hl]
  rw [refOut, show fin m c = after outB (after outA (after cond1 (at1 m 63 c))) from rfl, out_v]
  refine (normed_at _ b q).trans ?_
  rw [hm, hm, hm]
  rfl

end Value

end Cert.ReferenceIdeal.Two

end
-- ==== Proof.Bridge.lean ====
module
public import proofs.«01_k».proof.Proof.KValue
public import proofs.«01_k».proof.Proof.KRun
public import proofs.«01_k».proof.Proof.RefValue

@[expose] public section

/-! On the same arguments the kernel's result and the reference's are the same array. -/

set_option maxRecDepth 16384

noncomputable section

namespace Cert.Bridge
open Idealize.ShloMosaic Idealize.ShloMosaic.TcCoe
open Cert.KernelIdeal.Val (Args sum2 result_at)
open Cert.ReferenceIdeal.Two (wts seqs refOut refOut_at)

/-- The kernel's thread on a chip. -/
abbrev kt (c : Dev Cert.KernelIdeal.nD) : Thread Cert.KernelIdeal.nD Cert.KernelIdeal.τ := c.tc
/-- The reference's thread on a chip. -/
abbrev rt (c : Dev Cert.ReferenceIdeal.nD) : Thread Cert.ReferenceIdeal.nD Cert.ReferenceIdeal.τ := c.tc

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (ρ : Dev Cert.KernelIdeal.nD → PrngReg) (c : Dev Cert.KernelIdeal.nD)

/-- The two programs start from the same arguments on a chip. -/
def Agree : Prop :=
  m' ((rt c).loc Cert.ReferenceIdeal.main_arg0) = m ((kt c).loc Cert.KernelIdeal.main_arg0)
  ∧ m' ((rt c).loc Cert.ReferenceIdeal.main_arg1) = m ((kt c).loc Cert.KernelIdeal.main_arg1)
  ∧ m' ((rt c).loc Cert.ReferenceIdeal.main_arg2) = m ((kt c).loc Cert.KernelIdeal.main_arg2)
  ∧ m' ((rt c).loc Cert.ReferenceIdeal.main_arg3) = m ((kt c).loc Cert.KernelIdeal.main_arg3)
  ∧ m' ((rt c).loc Cert.ReferenceIdeal.main_arg4) = m ((kt c).loc Cert.KernelIdeal.main_arg4)
  ∧ m' ((rt c).loc Cert.ReferenceIdeal.main_arg5) = m ((kt c).loc Cert.KernelIdeal.main_arg5)
  ∧ m' ((rt c).loc Cert.ReferenceIdeal.main_arg6) = m ((kt c).loc Cert.KernelIdeal.main_arg6)
  ∧ m' ((rt c).loc Cert.ReferenceIdeal.main_arg7) = m ((kt c).loc Cert.KernelIdeal.main_arg7)
  ∧ m' ((rt c).loc Cert.ReferenceIdeal.main_arg8) = m ((kt c).loc Cert.KernelIdeal.main_arg8)
  ∧ m' ((rt c).loc Cert.ReferenceIdeal.main_arg9) = m ((kt c).loc Cert.KernelIdeal.main_arg9)
  ∧ m' ((rt c).loc Cert.ReferenceIdeal.main_arg10) = m ((kt c).loc Cert.KernelIdeal.main_arg10)
  ∧ m' ((rt c).loc Cert.ReferenceIdeal.main_arg11) = m ((kt c).loc Cert.KernelIdeal.main_arg11)
  ∧ m' ((rt c).loc Cert.ReferenceIdeal.main_arg12) = m ((kt c).loc Cert.KernelIdeal.main_arg12)
  ∧ m' ((rt c).loc Cert.ReferenceIdeal.main_arg13) = m ((kt c).loc Cert.KernelIdeal.main_arg13)
  ∧ m' ((rt c).loc Cert.ReferenceIdeal.main_arg14) = m ((kt c).loc Cert.KernelIdeal.main_arg14)
  ∧ m' ((rt c).loc Cert.ReferenceIdeal.main_arg15) = m ((kt c).loc Cert.KernelIdeal.main_arg15)
  ∧ m' ((rt c).loc Cert.ReferenceIdeal.main_arg16) = m ((kt c).loc Cert.KernelIdeal.main_arg16)
  ∧ m' ((rt c).loc Cert.ReferenceIdeal.main_arg17) = m ((kt c).loc Cert.KernelIdeal.main_arg17)
  ∧ m' ((rt c).loc Cert.ReferenceIdeal.main_arg18) = m ((kt c).loc Cert.KernelIdeal.main_arg18)

/-- Then the kernel's arguments hold the reference's weights and sequences. -/
theorem args_of (h : Agree m m' c) : Args m c (wts m' c) (fun b n => seqs m' c b n) := by
  obtain ⟨h0, h1, h2, h3, h4, h5, -, h7, h8, h9, h10, h11, h12, h13, -, h15, h16, h17, h18⟩ := h
  exact
    { x := fun b n t => by
        unfold seqs
        rw [dif_pos t.2]
        exact congrFun h0.symm (ix4 b n t 0)
      a1 := fun r => congrFun h1.symm (ix2 r 0)
      a2 := fun r k => congrFun h2.symm (ix2 r k)
      a3 := fun r => congrArg₂ (fun a b => sum2 a b r) h3.symm h4.symm
      a5 := fun r => congrFun h5.symm (ix2 r 0)
      a7 := fun r => congrArg₂ (fun a b => sum2 a b r) h7.symm h8.symm
      a9 := fun r j => congrFun h9.symm (ix2 r j)
      a10 := fun r k => congrFun h10.symm (ix2 r k)
      a11 := fun r => congrArg₂ (fun a b => sum2 a b r) h11.symm h12.symm
      a13 := fun r j => congrFun h13.symm (ix2 r j)
      a15 := fun r => congrArg₂ (fun a b => sum2 a b r) h15.symm h16.symm
      a17 := fun q j => congrFun h17.symm (ix2 q j)
      a18 := fun q => congrFun h18.symm (ix1 q) }

/-- The kernel's result array. -/
def kOut : Vec Ideal Cert.KernelIdeal.S64x2 .f32 := Cert.KernelIdeal.Gen.W4 m ρ c (Proc.devRef .tc Cert.KernelIdeal.main_v23)

/-- The reference's result array is the kernel's. -/
theorem out_eq (h : Agree m m' c) : (refOut m' c : Vec Ideal Cert.KernelIdeal.S64x2 .f32) = kOut m ρ c := by
  funext i
  obtain ⟨b, q, rfl⟩ : ∃ (b : Fin 64) (q : Fin 2), i = ix2 b q := ⟨i 0, i 1, eq_ix2 i⟩
  exact (refOut_at m' c b q).trans (result_at m ρ c (args_of m m' c h) b q).symm

end Cert.Bridge
end
-- ==== Proof.lean ====
/- Assembly of `Cert.Claim`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bridge
public import Idealize.ShloMosaic.Adequacy
public import Idealize.ShloMosaic.Init

@[expose] public section

noncomputable section

namespace Cert.Proof

open Idealize.ShloMosaic Idealize.SL.Sem

section Value
open Cert.KernelIdeal Cert.KernelIdeal.Gen Cert.KernelIdeal.Val

/-- Both programs end with the same result on the same arguments. -/
theorem same : Cert.algebraic_KernelIdeal_ReferenceIdeal := fun m g m' g' _ hA =>
  ⟨fun c => W4 m g c (Proc.devRef .tc main_v23),
    θ_run_mono (ends m g) fun r h c => ⟨ends_at m g c main_v23 (by decide) _ (h c),
      (ends_at m g c main_arg0 (by decide) _ (h c)).trans (W4_main_arg0 m g c),
      (ends_at m g c main_arg1 (by decide) _ (h c)).trans (W4_main_arg1 m g c),
      (ends_at m g c main_arg2 (by decide) _ (h c)).trans (W4_main_arg2 m g c),
      (ends_at m g c main_arg3 (by decide) _ (h c)).trans (W4_main_arg3 m g c),
      (ends_at m g c main_arg4 (by decide) _ (h c)).trans (W4_main_arg4 m g c),
      (ends_at m g c main_arg5 (by decide) _ (h c)).trans (W4_main_arg5 m g c),
      (ends_at m g c main_arg6 (by decide) _ (h c)).trans (W4_main_arg6 m g c),
      (ends_at m g c main_arg7 (by decide) _ (h c)).trans (W4_main_arg7 m g c),
      (ends_at m g c main_arg8 (by decide) _ (h c)).trans (W4_main_arg8 m g c),
      (ends_at m g c main_arg9 (by decide) _ (h c)).trans (W4_main_arg9 m g c),
      (ends_at m g c main_arg10 (by decide) _ (h c)).trans (W4_main_arg10 m g c),
      (ends_at m g c main_arg11 (by decide) _ (h c)).trans (W4_main_arg11 m g c),
      (ends_at m g c main_arg12 (by decide) _ (h c)).trans (W4_main_arg12 m g c),
      (ends_at m g c main_arg13 (by decide) _ (h c)).trans (W4_main_arg13 m g c),
      (ends_at m g c main_arg14 (by decide) _ (h c)).trans (W4_main_arg14 m g c),
      (ends_at m g c main_arg15 (by decide) _ (h c)).trans (W4_main_arg15 m g c),
      (ends_at m g c main_arg16 (by decide) _ (h c)).trans (W4_main_arg16 m g c),
      (ends_at m g c main_arg17 (by decide) _ (h c)).trans (W4_main_arg17 m g c),
      (ends_at m g c main_arg18 (by decide) _ (h c)).trans (W4_main_arg18 m g c)⟩,
    θ_run_mono (Cert.ReferenceIdeal.Two.ref_ends m' g') fun r h c =>
      ⟨(h.1 c).1.trans (Cert.Bridge.out_eq m m' g c (hA c)), (h.1 c).2⟩⟩

end Value

/-- The whole claim: the three programs' frames, the idealization's preservation, and the equality of the results. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => θ_run_mono (Cert.ReferenceIdeal.Two.ref_ends m g) fun r h => ⟨fun c => (h.1 c).2, h.2⟩,
  trivial, same⟩

end Cert.Proof

end
